-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S4095x2048 : Shape := ⟨2, ![4095, 2048]⟩
abbrev S2048x4095 : Shape := ⟨2, ![2048, 4095]⟩
abbrev S_ : Shape := ⟨0, ![]⟩
abbrev S4096x2048 : Shape := ⟨2, ![4096, 2048]⟩
abbrev S2048x4096 : Shape := ⟨2, ![2048, 4096]⟩
abbrev S8192x12 : Shape := ⟨2, ![8192, 12]⟩
abbrev S512x2048 : Shape := ⟨2, ![512, 2048]⟩
abbrev S512x12 : Shape := ⟨2, ![512, 12]⟩
abbrev S512x4096 : Shape := ⟨2, ![512, 4096]⟩
abbrev S512x1 : Shape := ⟨2, ![512, 1]⟩
abbrev S512x128 : Shape := ⟨2, ![512, 128]⟩
abbrev S512 : Shape := ⟨1, ![512]⟩
abbrev S512x256 : Shape := ⟨2, ![512, 256]⟩
abbrev S512x384 : Shape := ⟨2, ![512, 384]⟩
abbrev S512x640 : Shape := ⟨2, ![512, 640]⟩
abbrev S512x1152 : Shape := ⟨2, ![512, 1152]⟩
abbrev S512x2176 : Shape := ⟨2, ![512, 2176]⟩

abbrev nBuf : Space → Nat
  | .hbm => 12
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S4095x2048, .f32⟩
  | .hbm, ⟨2, _⟩ => ⟨S2048x4095, .f32⟩
  | .hbm, ⟨3, _⟩ => ⟨S_, .i32⟩
  | .hbm, ⟨4, _⟩ => ⟨S_, .f32⟩
  | .hbm, ⟨5, _⟩ => ⟨S4096x2048, .f32⟩
  | .hbm, ⟨6, _⟩ => ⟨S_, .i32⟩
  | .hbm, ⟨7, _⟩ => ⟨S_, .f32⟩
  | .hbm, ⟨8, _⟩ => ⟨S2048x4096, .f32⟩
  | .hbm, ⟨9, _⟩ => ⟨S8192x12, .i32⟩
  | .hbm, ⟨10, _⟩ => ⟨S8192x12, .f32⟩
  | .hbm, ⟨11, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S4096x2048, .f32⟩
  | .local _ .vmem, ⟨3, _⟩ => ⟨S512x12, .i32⟩
  | .local _ .vmem, ⟨4, _⟩ => ⟨S512x12, .i32⟩
  | .local _ .vmem, ⟨5, _⟩ => ⟨S512x12, .f32⟩
  | .local _ .vmem, ⟨6, _⟩ => ⟨S512x12, .f32⟩
  | .local _ .vmem, ⟨7, _⟩ => ⟨S512x4096, .f32⟩
  | .local _ .vmem, ⟨8, _⟩ => ⟨S512x12, .i32⟩
  | .local _ .vmem, ⟨9, _⟩ => ⟨S512x12, .i32⟩
  | .local _ .vmem, ⟨10, _⟩ => ⟨S512x12, .f32⟩
  | .local _ .vmem, ⟨11, _⟩ => ⟨S512x12, .f32⟩
  | .local _ .vmem, ⟨12, _⟩ => ⟨S2048x4096, .f32⟩
  | .local _ .vmem, ⟨13, _⟩ => ⟨S512x2048, .f32⟩
  | .local _ .vmem, ⟨14, _⟩ => ⟨S512x2048, .f32⟩
  | .local _ .vmem, ⟨15, _⟩ => ⟨S512x4096, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x12 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x12 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x12 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x12 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S8192x2048 : Shape := ⟨2, ![8192, 2048]⟩
abbrev S4095x2048 : Shape := ⟨2, ![4095, 2048]⟩
abbrev S2048x4095 : Shape := ⟨2, ![2048, 4095]⟩
abbrev S8192x4095 : Shape := ⟨2, ![8192, 4095]⟩
abbrev S_ : Shape := ⟨0, ![]⟩
abbrev S8192 : Shape := ⟨1, ![8192]⟩
abbrev S12x8192 : Shape := ⟨2, ![12, 8192]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩
abbrev S1x8192 : Shape := ⟨2, ![1, 8192]⟩
abbrev S8192x12 : Shape := ⟨2, ![8192, 12]⟩
abbrev S8192x12x1 : Shape := ⟨3, ![8192, 12, 1]⟩
abbrev S8192x12x2048 : Shape := ⟨3, ![8192, 12, 2048]⟩

abbrev nBuf : Space → Nat
  | .hbm => 84
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4095x2048, .f32⟩
  | .hbm, ⟨2, _⟩ => ⟨S2048x4095, .f32⟩
  | .hbm, ⟨3, _⟩ => ⟨S2048x4095, .f32⟩
  | .hbm, ⟨4, _⟩ => ⟨S8192x4095, .f32⟩
  | .hbm, ⟨5, _⟩ => ⟨S_, .i32⟩
  | .hbm, ⟨6, _⟩ => ⟨S8192, .i32⟩
  | .hbm, ⟨7, _⟩ => ⟨S_, .i32⟩
  | .hbm, ⟨8, _⟩ => ⟨S12x8192, .i32⟩
  | .hbm, ⟨9, _⟩ => ⟨S_, .f32⟩
  | .hbm, ⟨10, _⟩ => ⟨S12x8192, .f32⟩
  | .hbm, ⟨11, _⟩ => ⟨S_, .i32⟩
  | .hbm, ⟨12, _⟩ => ⟨S8192x4095, .f32⟩
  | .hbm, ⟨13, _⟩ => ⟨S_, .i32⟩
  | .hbm, ⟨14, _⟩ => ⟨S8192, .i32⟩
  | .hbm, ⟨15, _⟩ => ⟨S12x8192, .i32⟩
  | .hbm, ⟨16, _⟩ => ⟨S12x8192, .f32⟩
  | .hbm, ⟨17, _⟩ => ⟨S_, .i32⟩
  | .hbm, ⟨18, _⟩ => ⟨S_, .i1⟩
  | .hbm, ⟨19, _⟩ => ⟨S8192x1, .i32⟩
  | .hbm, ⟨20, _⟩ => ⟨S_, .i32⟩
  | .hbm, ⟨21, _⟩ => ⟨S8192x1, .i32⟩
  | .hbm, ⟨22, _⟩ => ⟨S8192x1, .i1⟩
  | .hbm, ⟨23, _⟩ => ⟨S_, .i32⟩
  | .hbm, ⟨24, _⟩ => ⟨S8192x1, .i32⟩
  | .hbm, ⟨25, _⟩ => ⟨S8192x1, .i32⟩
  | .hbm, ⟨26, _⟩ => ⟨S8192x1, .i32⟩
  | .hbm, ⟨27, _⟩ => ⟨S8192x1x1, .i32⟩
  | .hbm, ⟨28, _⟩ => ⟨S1, .i32⟩
  | .hbm, ⟨29, _⟩ => ⟨S_, .i32⟩
  | .hbm, ⟨30, _⟩ => ⟨S8192x1x1, .i32⟩
  | .hbm, ⟨31, _⟩ => ⟨S8192x1x1, .i1⟩
  | .hbm, ⟨32, _⟩ => ⟨S1x1x1, .i32⟩
  | .hbm, ⟨33, _⟩ => ⟨S8192x1x1, .i32⟩
  | .hbm, ⟨34, _⟩ => ⟨S8192x1x1, .i1⟩
  | .hbm, ⟨35, _⟩ => ⟨S8192x1x1, .i1⟩
  | .hbm, ⟨36, _⟩ => ⟨S_, .i1⟩
  | .hbm, ⟨37, _⟩ => ⟨S8192x1, .i1⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192, .f32⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S_, .f32⟩
  | .hbm, ⟨47, _⟩ => ⟨S8192, .f32⟩
  | .hbm, ⟨48, _⟩ => ⟨S8192, .i1⟩
  | .hbm, ⟨49, _⟩ => ⟨S8192, .i32⟩
  | .hbm, ⟨50, _⟩ => ⟨S8192, .i32⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S1x8192, .i32⟩
  | .hbm, ⟨55, _⟩ => ⟨S_, .i32⟩
  | .hbm, ⟨56, _⟩ => ⟨S12x8192, .i32⟩
  | .hbm, ⟨57, _⟩ => ⟨S1x8192, .f32⟩
  | .hbm, ⟨58, _⟩ => ⟨S_, .i32⟩
  | .hbm, ⟨59, _⟩ => ⟨S12x8192, .f32⟩
  | .hbm, ⟨60, _⟩ => ⟨S_, .i32⟩
  | .hbm, ⟨61, _⟩ => ⟨S_, .i32⟩
  | .hbm, ⟨62, _⟩ => ⟨S8192x12, .i32⟩
  | .hbm, ⟨63, _⟩ => ⟨S8192x12, .f32⟩
  | .hbm, ⟨64, _⟩ => ⟨S_, .f32⟩
  | .hbm, ⟨65, _⟩ => ⟨S8192x12, .f32⟩
  | .hbm, ⟨66, _⟩ => ⟨S8192x12, .f32⟩
  | .hbm, ⟨67, _⟩ => ⟨S8192x12, .f32⟩
  | .hbm, ⟨68, _⟩ => ⟨S_, .f32⟩
  | .hbm, ⟨69, _⟩ => ⟨S8192x12, .f32⟩
  | .hbm, ⟨70, _⟩ => ⟨S8192x12, .f32⟩
  | .hbm, ⟨71, _⟩ => ⟨S8192x12, .f32⟩
  | .hbm, ⟨72, _⟩ => ⟨S8192x12, .f32⟩
  | .hbm, ⟨73, _⟩ => ⟨S4095x2048, .f32⟩
  | .hbm, ⟨74, _⟩ => ⟨S_, .i32⟩
  | .hbm, ⟨75, _⟩ => ⟨S8192x12, .i32⟩
  | .hbm, ⟨76, _⟩ => ⟨S8192x12, .i1⟩
  | .hbm, ⟨77, _⟩ => ⟨S_, .i32⟩
  | .hbm, ⟨78, _⟩ => ⟨S8192x12, .i32⟩
  | .hbm, ⟨79, _⟩ => ⟨S8192x12, .i32⟩
  | .hbm, ⟨80, _⟩ => ⟨S8192x12, .i32⟩
  | .hbm, ⟨81, _⟩ => ⟨S8192x12x1, .i32⟩
  | .hbm, ⟨82, _⟩ => ⟨S8192x12x2048, .f32⟩
  | .hbm, ⟨83, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_c_1 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_while0c_c_10 : Ref sig .tc := ⟨.hbm, 17, rfl⟩
abbrev main_while0c_v24 : Ref sig .tc := ⟨.hbm, 18, rfl⟩
abbrev main_while0b_v24 : Ref sig .tc := ⟨.hbm, 19, rfl⟩
abbrev main_while0b_call0_c : Ref sig .tc := ⟨.hbm, 20, rfl⟩
abbrev main_while0b_call0_v0 : Ref sig .tc := ⟨.hbm, 21, rfl⟩
abbrev main_while0b_call0_v1 : Ref sig .tc := ⟨.hbm, 22, rfl⟩
abbrev main_while0b_call0_c_0 : Ref sig .tc := ⟨.hbm, 23, rfl⟩
abbrev main_while0b_call0_v2 : Ref sig .tc := ⟨.hbm, 24, rfl⟩
abbrev main_while0b_call0_v3 : Ref sig .tc := ⟨.hbm, 25, rfl⟩
abbrev main_while0b_call0_v4 : Ref sig .tc := ⟨.hbm, 26, rfl⟩
abbrev main_while0b_call0_v5 : Ref sig .tc := ⟨.hbm, 27, rfl⟩
abbrev main_while0b_call0_c_1 : Ref sig .tc := ⟨.hbm, 28, rfl⟩
abbrev main_while0b_call0_c_2 : Ref sig .tc := ⟨.hbm, 29, rfl⟩
abbrev main_while0b_call0_v6 : Ref sig .tc := ⟨.hbm, 30, rfl⟩
abbrev main_while0b_call0_v7 : Ref sig .tc := ⟨.hbm, 31, rfl⟩
abbrev main_while0b_call0_v8 : Ref sig .tc := ⟨.hbm, 32, rfl⟩
abbrev main_while0b_call0_v9 : Ref sig .tc := ⟨.hbm, 33, rfl⟩
abbrev main_while0b_call0_v10 : Ref sig .tc := ⟨.hbm, 34, rfl⟩
abbrev main_while0b_call0_v11 : Ref sig .tc := ⟨.hbm, 35, rfl⟩
abbrev main_while0b_call0_c_3 : Ref sig .tc := ⟨.hbm, 36, rfl⟩
abbrev main_while0b_call0_v12 : Ref sig .tc := ⟨.hbm, 37, rfl⟩
abbrev main_while0b_call0_v13 : Ref sig .tc := ⟨.hbm, 38, rfl⟩
abbrev main_while0b_call0_cst : Ref sig .tc := ⟨.hbm, 39, rfl⟩
abbrev main_while0b_call0_v14 : Ref sig .tc := ⟨.hbm, 40, rfl⟩
abbrev main_while0b_v25 : Ref sig .tc := ⟨.hbm, 41, rfl⟩
abbrev main_while0b_v26 : Ref sig .tc := ⟨.hbm, 42, rfl⟩
abbrev main_while0b_c_10 : Ref sig .tc := ⟨.hbm, 43, rfl⟩
abbrev main_while0b_v27 : Ref sig .tc := ⟨.hbm, 44, rfl⟩
abbrev main_while0b_v28 : Ref sig .tc := ⟨.hbm, 45, rfl⟩
abbrev main_while0b_cst_11 : Ref sig .tc := ⟨.hbm, 46, rfl⟩
abbrev main_while0b_v29 : Ref sig .tc := ⟨.hbm, 47, rfl⟩
abbrev main_while0b_v30 : Ref sig .tc := ⟨.hbm, 48, rfl⟩
abbrev main_while0b_v31 : Ref sig .tc := ⟨.hbm, 49, rfl⟩
abbrev main_while0b_v32 : Ref sig .tc := ⟨.hbm, 50, rfl⟩
abbrev main_while0b_c_12 : Ref sig .tc := ⟨.hbm, 51, rfl⟩
abbrev main_while0b_v33 : Ref sig .tc := ⟨.hbm, 52, rfl⟩
abbrev main_while0b_v34 : Ref sig .tc := ⟨.hbm, 53, rfl⟩
abbrev main_while0b_call1_v0 : Ref sig .tc := ⟨.hbm, 54, rfl⟩
abbrev main_while0b_call1_c : Ref sig .tc := ⟨.hbm, 55, rfl⟩
abbrev main_while0b_v35 : Ref sig .tc := ⟨.hbm, 56, rfl⟩
abbrev main_while0b_call2_v0 : Ref sig .tc := ⟨.hbm, 57, rfl⟩
abbrev main_while0b_call2_c : Ref sig .tc := ⟨.hbm, 58, rfl⟩
abbrev main_while0b_v36 : Ref sig .tc := ⟨.hbm, 59, rfl⟩
abbrev main_while0b_c_13 : Ref sig .tc := ⟨.hbm, 60, rfl⟩
abbrev main_while0b_v37 : Ref sig .tc := ⟨.hbm, 61, rfl⟩
abbrev main_v6 : Ref sig .tc := ⟨.hbm, 62, rfl⟩
abbrev main_v7 : Ref sig .tc := ⟨.hbm, 63, rfl⟩
abbrev main_cst_2 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_cst_3 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_c_4 : Ref sig .tc := ⟨.hbm, 74, rfl⟩
abbrev main_v16 : Ref sig .tc := ⟨.hbm, 75, rfl⟩
abbrev main_v17 : Ref sig .tc := ⟨.hbm, 76, rfl⟩
abbrev main_c_5 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩

abbrev nD : Nat := 1
abbrev τ : Topo := Topo.v7x

variable {F : FTy → Type} [FloatOps F]

abbrev main_while0_count : Scf.Loop 32 := ⟨0#32, 12#32, 1#32⟩
-- ==== Proof.Tree.lean ====
/- The walk through a complete binary tree of 4095 nodes, as plain mathematics: which node a row visits at each depth,
   given the value `L n` the row has at node `n`. Kernel and reference are both compared with the definitions here. -/
module

public import Idealize.ShloMosaic.Lib.ValueIdx
public import Idealize.ShloMosaic.PureOps.Ideal.Laws

@[expose] public section

noncomputable section

namespace Cert.Proof.Tree

open Idealize.ShloMosaic

/-- Which child a row takes: 1 (the right one) where its value is at least zero, else 0. -/
def turn (x : EReal) : ℕ := (Ideal.cmp .oge x 0).toNat

/-- The node visited at a depth: the root is node 0 and the children of `n` are `2 n + 1` and `2 n + 2`. -/
def node (L : ℕ → EReal) : ℕ → ℕ
  | 0 => 0
  | d + 1 => 2 * node L d + turn (L (node L d)) + 1

/-- The visited node counted from the first node of its level. -/
def place (L : ℕ → EReal) : ℕ → ℕ
  | 0 => 0
  | d + 1 => 2 * place L d + turn (L (node L d))

/-- The exact GELU as the kernel spells it: half the value, times one plus the error function of the value scaled. -/
def gelu (x : EReal) : EReal :=
  x * Ideal.ofBits .f32 0x3F000000#32 * (Ideal.ofBits .f32 0x3F800000#32 + Ideal.erf (x * Ideal.ofBits .f32 0x3F3504F3#32))

theorem turn_le (x : EReal) : turn x ≤ 1 := by
  have := (Ideal.cmp .oge x 0).isLt
  unfold turn; omega

variable (L : ℕ → EReal)

/-- A level's nodes are numbered from `2 ^ d - 1`. -/
theorem node_eq (d : ℕ) : node L d + 1 = 2 ^ d + place L d := by
  induction d with
  | zero => rfl
  | succ d ih => simp only [node, place, pow_succ]; omega

theorem place_lt (d : ℕ) : place L d < 2 ^ d := by
  induction d with
  | zero => simp [place]
  | succ d ih => have := turn_le (L (node L d)); simp only [place, pow_succ]; omega

/-- The node at depth `d` lies in level `d`. -/
theorem node_bounds (d : ℕ) : 2 ^ d ≤ node L d + 1 ∧ node L d + 1 < 2 ^ (d + 1) := by
  have h := node_eq L d
  have h' := place_lt L d
  rw [pow_succ]; omega

/-- The twelve levels hold 4095 nodes. -/
theorem node_lt {d : ℕ} (hd : d < 12) : node L d < 4095 := by
  have h := (node_bounds L d).2
  have : 2 ^ (d + 1) ≤ 2 ^ 12 := Nat.pow_le_pow_right (by decide) hd
  omega

/-- Deeper nodes have greater numbers. -/
theorem node_strictMono : StrictMono (node L) := by
  refine strictMono_nat_of_lt_succ fun d => ?_
  simp only [node]; omega

/-- Nodes at different depths differ. -/
theorem node_injective : Function.Injective (node L) := (node_strictMono L).injective

/-- The walk reads the values at numbers below 4095 only. -/
theorem node_congr {L L' : ℕ → EReal} (h : ∀ n < 4095, L n = L' n) : ∀ d < 12, node L d = node L' d
  | 0, _ => rfl
  | d + 1, hd => by
    have ih := node_congr h d (by omega)
    simp only [node]
    rw [h _ (node_lt L (by omega)), ih]

end Cert.Proof.Tree

end
-- ==== Proof.Segment.lean ====
/- The steps one depth of the walk is made of, on a block of 512 rows, at any segment width: reading a row's value at its
   node out of a segment of columns, the next place, the activation, and adding a coefficient at a node's column. -/
module

public import proofs.«01_k».proof.Proof.Tree
public import Idealize.ShloMosaic.Lib.Pipeline.Value
public import Idealize.ShloMosaic.Lib.Affine
public import Idealize.ShloMosaic.Lib.Routing.Words

@[expose] public section

noncomputable section

namespace Cert.Proof.Segment

open Idealize.ShloMosaic Idealize.ShloMosaic.ValueIdx
open Cert.Proof.Tree

abbrev Rows : Shape := ⟨1, ![512]⟩
abbrev Col : Shape := ⟨2, ![512, 1]⟩
abbrev Seg (W : ℕ) : Shape := ⟨2, ![512, W]⟩

/-- The columns of a segment that starts at `lo`, compared with the node of each row. -/
def hits (W lo : ℕ) (n : IVec Col 32) (hi : (Seg W).Iotas .tc 32 [1]) (hb : Col.Broadcasts (Seg W)) : IVec (Seg W) 1 :=
  cmpi .eq (addi (iota .tc (Seg W) 32 [1] hi) (broadcast (Seg W) (BitVec.ofNat 32 lo))) (broadcastTo (Seg W) n hb)

theorem col_apply {α : Type} {W : ℕ} (x : Col.Idx → α) (hb : Col.Broadcasts (Seg W)) (r : Fin 512) (k : Fin W) :
    broadcastTo (Seg W) x hb (ix2 r k) = x (ix2 r 0) := by
  unfold broadcastTo
  refine congrArg x (funext fun a => Fin.ext ?_)
  match a with
  | ⟨0, _⟩ => rfl
  | ⟨1, _⟩ => rfl

/-- The comparison is true at the node's column and nowhere else. -/
theorem hits_apply {W lo : ℕ} (hW : lo + W ≤ 4096) (n : IVec Col 32) (hi) (hb) (r : Fin 512) (k : Fin W) {m : ℕ} (hm : m < 4096)
    (hn : n (ix2 r 0) = BitVec.ofNat 32 m) : hits W lo n hi hb (ix2 r k) = 1#1 ↔ lo + k = m := by
  unfold hits
  show IntOp.cmpi .eq (iota .tc (Seg W) 32 [1] hi (ix2 r k) + BitVec.ofNat 32 lo) (broadcastTo (Seg W) n hb (ix2 r k)) = 1#1 ↔ _
  rw [IntOp.cmpi_eq, col_apply, hn, iota_single_apply]
  show BitVec.ofNat 32 k.val + BitVec.ofNat 32 lo = _ ↔ _
  rw [← BitVec.ofNat_add]
  have hk := k.isLt
  constructor
  · intro h
    have := congrArg BitVec.toNat h
    simp only [BitVec.toNat_ofNat] at this
    rw [Nat.mod_eq_of_lt (by omega), Nat.mod_eq_of_lt (by omega)] at this
    omega
  · intro h; rw [← h, Nat.add_comm]

/-- The segment's sum over the columns kept by a mask. -/
def masked (W : ℕ) (v : FVec Ideal (Seg W) .f32) (b : IVec (Seg W) 1) (hr : (Seg W).Reduces [1] Rows) (hc : Rows.ShapeCasts Col) :
    FVec Ideal Col .f32 :=
  shapeCast Col (multiReduction .add [1] Rows (select b v (broadcast (Seg W) (Scalar.ofBits .f32 0x00000000#32))) 0x00000000#32 hr (.inl rfl) rfl) hc

/-- Kept at the node's column alone, the sum is the segment's entry there. -/
theorem masked_apply {W lo : ℕ} (v : FVec Ideal (Seg W) .f32) (b : IVec (Seg W) 1) (hr) (hc) (r : Fin 512) {m : ℕ}
    (hb : ∀ k : Fin W, b (ix2 r k) = 1#1 ↔ lo + k = m) (h1 : lo ≤ m) (h2 : m < lo + W) :
    masked W v b hr hc (ix2 r 0) = v (ix2 r ⟨m - lo, by omega⟩) := by
  unfold masked
  rw [Routing.cast12 (a := 512) (b := 1) (n := 512) _ hc r 0 r (by simp)]
  refine (Ideal.multiReduction_add_single _ _ hr (.inl rfl) rfl (ix1 r)).trans ?_
  have hl : ∀ k : Fin W, hr.lift (ix1 r) k = ix2 r k := fun k => funext fun a => Fin.ext (by
    match a with
    | ⟨0, _⟩ => rfl
    | ⟨1, _⟩ => rfl)
  refine (Fintype.sum_eq_single (⟨m - lo, by omega⟩ : Fin W) fun k hk => ?_).trans ?_
  · have h0 : b (ix2 r k) = 0#1 := eq_zero_of_ne_one fun h => hk (Fin.ext (by have := (hb k).mp h; show k.val = m - lo; omega))
    rw [hl, select_apply, h0, select_zero]
    exact Ideal.ofBits_zero_f32
  · rw [hl, select_apply, (hb _).mpr (by show lo + (m - lo) = m; omega), select_one]

/-- The next place: twice the place, plus one where the value is at least zero. -/
def next (l : IVec Col 32) (s : FVec Ideal Col .f32) : IVec Col 32 :=
  addi (muli (broadcast Col 2#32) l) (extui 32 (cmpf .oge s (broadcast Col (Scalar.ofBits .f32 0x00000000#32))) (by decide))

theorem next_apply (l : IVec Col 32) (s : FVec Ideal Col .f32) (i : Col.Idx) {p : ℕ} (hl : l i = BitVec.ofNat 32 p) :
    next l s i = BitVec.ofNat 32 (2 * p + turn (s i)) := by
  show 2#32 * l i + (Ideal.cmp .oge (s i) (Ideal.ofBits .f32 0x00000000#32)).setWidth 32 = _
  rw [hl, Ideal.ofBits_zero_f32, BitVec.ofNat_add, BitVec.ofNat_mul]
  refine congrArg₂ _ rfl (BitVec.eq_of_toNat_eq ?_)
  unfold turn
  rw [BitVec.toNat_setWidth, BitVec.toNat_ofNat]

/-- The activation of a column of values. -/
def act (s : FVec Ideal Col .f32) : FVec Ideal Col .f32 :=
  mulf (mulf s (broadcast Col (Scalar.ofBits .f32 0x3F000000#32)))
    (addf (broadcast Col (Scalar.ofBits .f32 0x3F800000#32)) (erf (mulf s (broadcast Col (Scalar.ofBits .f32 0x3F3504F3#32)))))

theorem act_apply (s : FVec Ideal Col .f32) (i : Col.Idx) : act s i = gelu (s i) := rfl

/-- A segment with the coefficient added at the node's column. -/
def bump (W : ℕ) (b : IVec (Seg W) 1) (g : FVec Ideal Col .f32) (v : FVec Ideal (Seg W) .f32) (hb : Col.Broadcasts (Seg W)) : FVec Ideal (Seg W) .f32 :=
  addf v (select b (broadcastTo (Seg W) g hb) (broadcast (Seg W) (Scalar.ofBits .f32 0x00000000#32)))

theorem bump_apply {W lo : ℕ} (b : IVec (Seg W) 1) (g : FVec Ideal Col .f32) (v : FVec Ideal (Seg W) .f32) (hb') (r : Fin 512) (k : Fin W) {m : ℕ}
    (hb : b (ix2 r k) = 1#1 ↔ lo + k = m) :
    bump W b g v hb' (ix2 r k) = v (ix2 r k) + if lo + k = m then g (ix2 r 0) else 0 := by
  unfold bump
  show v (ix2 r k) + select b _ _ (ix2 r k) = _
  rw [select_apply]
  split
  · next h => rw [hb.mpr h, select_one, col_apply]
  · next h =>
    have h0 : b (ix2 r k) = 0#1 := eq_zero_of_ne_one fun h' => h (hb.mp h')
    rw [h0, select_zero]
    exact congrArg _ Ideal.ofBits_zero_f32

end Cert.Proof.Segment

end
-- ==== Proof.Route.lean ====
/- The walk of a block of 512 rows down the tree, one depth after another, from the block's values at every node. -/
module

public import proofs.«01_k».proof.Proof.Segment
public import Idealize.ShloMosaic.Lib.Pipeline.ValueKit.Tiles

@[expose] public section

noncomputable section

namespace Cert.Proof.Route

open Idealize.ShloMosaic Idealize.ShloMosaic.ValueIdx
open Cert.Proof.Tree Cert.Proof.Segment

/-- The first column of the segment read at a depth. -/
def lo : ℕ → ℕ
  | 8 => 128
  | 9 => 384
  | 10 => 896
  | 11 => 1920
  | _ => 0

/-- The width of the segment read at a depth. -/
def wid : ℕ → ℕ
  | 7 => 256
  | 8 => 384
  | 9 => 640
  | 10 => 1152
  | 11 => 2176
  | _ => 128

/-- Every segment lies inside the 4096 columns. -/
theorem lo_wid : ∀ d, lo d + wid d ≤ 4096
  | 0 | 1 | 2 | 3 | 4 | 5 | 6 | 7 | 8 | 9 | 10 | 11 => by decide
  | d + 12 => by show 0 + 128 ≤ 4096; decide

/-- What holds of the six widths holds of every depth's width. -/
theorem wid_cases {P : ℕ → Prop} (h : ∀ w ∈ [128, 256, 384, 640, 1152, 2176], P w) (d : ℕ) : P (wid d) := by
  refine h _ ?_
  unfold wid
  split <;> simp

/-- The nodes of a level lie inside its segment. -/
theorem level_in : ∀ d < 12, lo d + 1 ≤ 2 ^ d ∧ 2 ^ (d + 1) ≤ lo d + wid d + 1 := by decide

/-- The node a row visits lies inside the segment of its depth. -/
theorem node_in (L : ℕ → EReal) {d : ℕ} (hd : d < 12) : lo d ≤ node L d ∧ node L d < lo d + wid d := by
  have h := level_in d hd
  have h' := node_bounds L d
  omega

theorem iotas (d : ℕ) : (Seg (wid d)).Iotas .tc 32 [1] :=
  wid_cases (P := fun w => (Seg w).Iotas .tc 32 [1]) (by simp only [List.forall_mem_cons]; decide) d
theorem broadcasts (d : ℕ) : Col.Broadcasts (Seg (wid d)) :=
  wid_cases (P := fun w => Col.Broadcasts (Seg w)) (by simp only [List.forall_mem_cons]; decide) d
theorem reduces (d : ℕ) : (Seg (wid d)).Reduces [1] Rows :=
  wid_cases (P := fun w => (Seg w).Reduces [1] Rows) (by simp only [List.forall_mem_cons]; decide) d
theorem casts : Rows.ShapeCasts Col := by decide

theorem inBlock (d : ℕ) : ∀ a, (![0, lo d] : Fin 2 → ℕ) a + (![512, wid d] : Fin 2 → ℕ) a ≤ (Seg 4096).size a := by
  intro a
  match a with
  | ⟨0, _⟩ => exact Nat.le_refl 512
  | ⟨1, _⟩ => exact lo_wid d

/-- The columns of a depth's segment. -/
def seg (G : FVec Ideal (Seg 4096) .f32) (d : ℕ) : FVec Ideal (Seg (wid d)) .f32 :=
  View.ld (S := Seg 4096) (Val := Elt Ideal) (e' := .f32) G (Rect.unit (s := Seg 4096) ![0, lo d] ![512, wid d] (inBlock d))

theorem seg_apply (G : FVec Ideal (Seg 4096) .f32) (d : ℕ) (r : Fin 512) (k : Fin (wid d)) (n : Fin 4096) (h : (n : ℕ) = lo d + k) :
    seg G d (ix2 r k) = G (ix2 r n) :=
  View.ld_unit_apply_of (S := Seg 4096) (Val := Elt Ideal) (e := .f32) G ![0, lo d] ![512, wid d] (inBlock d) (ix2 r k) (ix2 r n) fun a => by
    match a with
    | ⟨0, _⟩ => exact (Nat.zero_add _).symm
    | ⟨1, _⟩ => exact h

/-- The node numbers at a depth, from the places. -/
def nodes (d : ℕ) (l : IVec Col 32) : IVec Col 32 := addi (broadcast Col (BitVec.ofNat 32 (2 ^ d - 1))) l

/-- The mask of the nodes' columns in a depth's segment. -/
def mask (d : ℕ) (n : IVec Col 32) : IVec (Seg (wid d)) 1 := hits (wid d) (lo d) n (iotas d) (broadcasts d)

/-- The rows' values at their nodes of a depth, from the places. -/
def score (G : FVec Ideal (Seg 4096) .f32) (d : ℕ) (l : IVec Col 32) : FVec Ideal Col .f32 :=
  masked (wid d) (seg G d) (mask d (nodes d l)) (reduces d) casts

/-- The rows' places at a depth. -/
def places (G : FVec Ideal (Seg 4096) .f32) : ℕ → IVec Col 32
  | 0 => broadcast Col 0#32
  | d + 1 => next (places G d) (score G d (places G d))

/-- The rows' nodes at a depth. -/
def nodesAt (G : FVec Ideal (Seg 4096) .f32) (d : ℕ) : IVec Col 32 := nodes d (places G d)

/-- The rows' values at a depth. -/
def scoresAt (G : FVec Ideal (Seg 4096) .f32) (d : ℕ) : FVec Ideal Col .f32 := score G d (places G d)

/-- The mask of a depth. -/
def maskAt (G : FVec Ideal (Seg 4096) .f32) (d : ℕ) : IVec (Seg (wid d)) 1 := mask d (nodesAt G d)

section
variable (G : FVec Ideal (Seg 4096) .f32) (r : Fin 512) (L : ℕ → EReal) (hL : ∀ n : Fin 4096, (n : ℕ) < 4095 → G (ix2 r n) = L n)
include hL

/-- Where the places are the walk's, the nodes and the values are the walk's too. -/
theorem step {d : ℕ} (hd : d < 12) (hp : places G d (ix2 r 0) = BitVec.ofNat 32 (place L d)) :
    nodesAt G d (ix2 r 0) = BitVec.ofNat 32 (node L d) ∧ scoresAt G d (ix2 r 0) = L (node L d) := by
  have hn : nodesAt G d (ix2 r 0) = BitVec.ofNat 32 (node L d) := by
    show BitVec.ofNat 32 (2 ^ d - 1) + places G d (ix2 r 0) = _
    rw [hp, ← BitVec.ofNat_add]
    have := node_eq L d
    have := Nat.one_le_two_pow (n := d)
    congr 1; omega
  refine ⟨hn, ?_⟩
  have hin := node_in L hd
  have hlt := node_lt L hd
  refine (masked_apply (lo := lo d) _ _ _ _ r (fun k => hits_apply (lo_wid d) _ _ _ r k (by omega) hn) hin.1 hin.2).trans ?_
  rw [seg_apply G d r _ ⟨node L d, by omega⟩ (by show node L d = lo d + (node L d - lo d); omega)]
  exact hL _ hlt

/-- The places are the walk's. -/
theorem places_eq : ∀ d < 12, places G d (ix2 r 0) = BitVec.ofNat 32 (place L d)
  | 0, _ => rfl
  | d + 1, hd => by
    have ih := places_eq d (by omega)
    refine (next_apply _ _ _ ih).trans ?_
    have hs : score G d (places G d) (ix2 r 0) = _ := (step G r L hL (by omega) ih).2
    rw [hs]; rfl

/-- The nodes are the walk's. -/
theorem nodes_eq (d : ℕ) (hd : d < 12) : nodesAt G d (ix2 r 0) = BitVec.ofNat 32 (node L d) :=
  (step G r L hL hd (places_eq G r L hL d hd)).1

/-- The values are the row's at the walk's nodes. -/
theorem scores_eq (d : ℕ) (hd : d < 12) : scoresAt G d (ix2 r 0) = L (node L d) :=
  (step G r L hL hd (places_eq G r L hL d hd)).2

end

end Cert.Proof.Route

end
-- ==== Proof.RouteBlock.lean ====
/- The routing kernel on one block: the block's values at the nodes, and the twelve columns of node numbers and of
   activations it stores, each the walk's. -/
module

public import proofs.«01_k».proof.Proof.Gen.KernelIdeal.Frame
public import proofs.«01_k».proof.Proof.Route

@[expose] public section

noncomputable section

namespace Cert.Proof.RouteBlock

open Idealize.ShloMosaic Idealize.ShloMosaic.TcCoe Idealize.SL.Sem Idealize.ShloMosaic.ValueIdx
open Cert.KernelIdeal Cert.KernelIdeal.Gen
open Cert.Proof.Tree Cert.Proof.Segment Cert.Proof.Route

section
variable (G : FVec Ideal S512x4096 .f32)

/-! The segments the kernel loads. -/

abbrev cut128 : Vec Ideal S512x128 .f32 := View.ld (S := S512x4096) (e' := .f32) G (Rect.unit ![0, 0] ![512, 128] inb_S512x4096_S512x128_0_0)
abbrev cut256 : Vec Ideal S512x256 .f32 := View.ld (S := S512x4096) (e' := .f32) G (Rect.unit ![0, 0] ![512, 256] inb_S512x4096_S512x256_0_0)
abbrev cut384 : Vec Ideal S512x384 .f32 := View.ld (S := S512x4096) (e' := .f32) G (Rect.unit ![0, 128] ![512, 384] inb_S512x4096_S512x384_0_128)
abbrev cut640 : Vec Ideal S512x640 .f32 := View.ld (S := S512x4096) (e' := .f32) G (Rect.unit ![0, 384] ![512, 640] inb_S512x4096_S512x640_0_384)
abbrev cut1152 : Vec Ideal S512x1152 .f32 := View.ld (S := S512x4096) (e' := .f32) G (Rect.unit ![0, 896] ![512, 1152] inb_S512x4096_S512x1152_0_896)
abbrev cut2176 : Vec Ideal S512x2176 .f32 := View.ld (S := S512x4096) (e' := .f32) G (Rect.unit ![0, 1920] ![512, 2176] inb_S512x4096_S512x2176_0_1920)

/-- The activations at a depth. -/
abbrev actsAt (d : ℕ) : FVec Ideal Col .f32 := act (scoresAt G d)

/-! The kernel's named values are the walk's, depth by depth. -/

theorem depth0 : k0_pay4 = nodesAt G 0 ∧ k0_pay5 (cut128 G) = scoresAt G 0 ∧ k0_pay6 (cut128 G) = actsAt G 0 := ⟨rfl, rfl, rfl⟩

theorem depth1 : k0_pay9 (scoresAt G 0) k0_pay7 k0_pay8 = places G 1 ∧ k0_pay10 (scoresAt G 0) k0_pay7 k0_pay8 = nodesAt G 1 ∧
    k0_pay11 (scoresAt G 0) k0_pay7 k0_pay8 (cut128 G) = scoresAt G 1 ∧ k0_pay12 (scoresAt G 0) k0_pay7 k0_pay8 (cut128 G) = actsAt G 1 :=
  ⟨rfl, rfl, rfl, rfl⟩

theorem depth2 : k0_pay13 (scoresAt G 0) k0_pay7 k0_pay8 (cut128 G) = places G 2 ∧ k0_pay14 (scoresAt G 0) k0_pay7 k0_pay8 (cut128 G) = nodesAt G 2 ∧
    k0_pay15 (scoresAt G 0) k0_pay7 k0_pay8 (cut128 G) = maskAt G 2 ∧ k0_pay16 (cut128 G) (maskAt G 2) = scoresAt G 2 ∧
    k0_pay17 (cut128 G) (maskAt G 2) = actsAt G 2 :=
  ⟨rfl, rfl, rfl, rfl, rfl⟩

theorem depth3 : k0_pay18 (places G 2) (cut128 G) (maskAt G 2) = places G 3 ∧ k0_pay19 (places G 2) (cut128 G) (maskAt G 2) = nodesAt G 3 ∧
    k0_pay20 (places G 2) (cut128 G) (maskAt G 2) (cut128 G) = scoresAt G 3 ∧
    k0_pay23 (scoresAt G 3) (k0_pay21 (places G 2) (cut128 G) (maskAt G 2) (cut128 G)) k0_pay22 = actsAt G 3 :=
  ⟨rfl, rfl, rfl, rfl⟩

theorem depth4 : k0_pay24 (places G 3) (scoresAt G 3) = places G 4 ∧ k0_pay25 (places G 3) (scoresAt G 3) = nodesAt G 4 ∧
    k0_pay26 (places G 3) (scoresAt G 3) (cut128 G) = scoresAt G 4 ∧ k0_pay27 (places G 3) (scoresAt G 3) (cut128 G) = actsAt G 4 :=
  ⟨rfl, rfl, rfl, rfl⟩

/-- Twice the places at depth 4, as the kernel keeps them for the next depth. -/
def twice4 : IVec Col 32 := k0_pay28 (places G 3) (scoresAt G 3)

theorem depth5 : k0_pay28 (places G 3) (scoresAt G 3) = twice4 G ∧ k0_pay30 (scoresAt G 4) (twice4 G) k0_pay29 = places G 5 ∧
    k0_pay31 (scoresAt G 4) (twice4 G) k0_pay29 = nodesAt G 5 ∧
    k0_pay32 (scoresAt G 4) (twice4 G) k0_pay29 (cut128 G) = scoresAt G 5 ∧ k0_pay33 (scoresAt G 4) (twice4 G) k0_pay29 (cut128 G) = actsAt G 5 :=
  ⟨rfl, rfl, rfl, rfl, rfl⟩

theorem depth6 : k0_pay34 (scoresAt G 4) (twice4 G) k0_pay29 (cut128 G) = places G 6 ∧
    k0_pay35 (scoresAt G 4) (twice4 G) k0_pay29 (cut128 G) = nodesAt G 6 ∧ k0_pay36 (scoresAt G 4) (twice4 G) k0_pay29 (cut128 G) = maskAt G 6 ∧
    k0_pay37 (cut128 G) (maskAt G 6) = scoresAt G 6 ∧ k0_pay38 (cut128 G) (maskAt G 6) = actsAt G 6 :=
  ⟨rfl, rfl, rfl, rfl, rfl⟩

theorem depth7 : k0_pay39 (places G 6) (cut128 G) (maskAt G 6) = places G 7 ∧ k0_pay40 (places G 6) (cut128 G) (maskAt G 6) = nodesAt G 7 ∧
    k0_pay41 (places G 6) (cut128 G) (maskAt G 6) (cut256 G) = scoresAt G 7 ∧
    k0_pay44 (scoresAt G 7) (k0_pay42 (places G 6) (cut128 G) (maskAt G 6) (cut256 G)) k0_pay43 = actsAt G 7 :=
  ⟨rfl, rfl, rfl, rfl⟩

theorem depth8 : k0_pay45 (places G 7) (scoresAt G 7) = places G 8 ∧ k0_pay46 (places G 7) (scoresAt G 7) = nodesAt G 8 ∧
    k0_pay47 (places G 7) (scoresAt G 7) (cut384 G) = scoresAt G 8 ∧ k0_pay48 (places G 7) (scoresAt G 7) (cut384 G) = actsAt G 8 :=
  ⟨rfl, rfl, rfl, rfl⟩

/-- Twice the places at depth 8, as the kernel keeps them for the next depth. -/
def twice8 : IVec Col 32 := k0_pay49 (places G 7) (scoresAt G 7)

theorem depth9 : k0_pay49 (places G 7) (scoresAt G 7) = twice8 G ∧ k0_pay51 (scoresAt G 8) (twice8 G) k0_pay50 = places G 9 ∧
    k0_pay52 (scoresAt G 8) (twice8 G) k0_pay50 = nodesAt G 9 ∧
    k0_pay53 (scoresAt G 8) (twice8 G) k0_pay50 (cut640 G) = scoresAt G 9 ∧ k0_pay54 (scoresAt G 8) (twice8 G) k0_pay50 (cut640 G) = actsAt G 9 :=
  ⟨rfl, rfl, rfl, rfl, rfl⟩

theorem depth10 : k0_pay55 (scoresAt G 8) (twice8 G) k0_pay50 (cut640 G) = places G 10 ∧
    k0_pay56 (scoresAt G 8) (twice8 G) k0_pay50 (cut640 G) = nodesAt G 10 ∧ k0_pay57 (scoresAt G 8) (twice8 G) k0_pay50 (cut640 G) = maskAt G 10 ∧
    k0_pay58 (cut1152 G) (maskAt G 10) = scoresAt G 10 ∧ k0_pay59 (cut1152 G) (maskAt G 10) = actsAt G 10 :=
  ⟨rfl, rfl, rfl, rfl, rfl⟩

theorem depth11 : k0_pay60 (places G 10) (cut1152 G) (maskAt G 10) = nodesAt G 11 ∧
    k0_pay61 (places G 10) (cut1152 G) (maskAt G 10) (cut2176 G) = scoresAt G 11 ∧
    k0_pay1 (scoresAt G 11) (k0_pay62 (places G 10) (cut1152 G) (maskAt G 10) (cut2176 G)) k0_pay63 = actsAt G 11 :=
  ⟨rfl, rfl, rfl⟩

end

/-- A column stored among twelve: where it is read back, it is the column read. -/
theorem colAt {e : EltTy} (f : ℕ → Col.Idx → Elt Ideal e) (r : Fin 512) (d : Fin 12) (k : ℕ) :
    View.TileAt (S := S512x12) (Val := Elt Ideal) (ix2 r d) ![0, k] ![512, 1] (f k) (f d (ix2 r 0)) := fun x h => by
  have h0 : (r : ℕ) = 0 + x 0 := h 0
  have h1 : (d : ℕ) = k + x 1 := h 1
  have hx : (x 1 : ℕ) < 1 := (x 1).isLt
  have hk : k = d := by omega
  subst hk
  refine congrArg (f d) (funext fun a => Fin.ext ?_)
  match a with
  | ⟨0, _⟩ => show (x 0 : ℕ) = r; omega
  | ⟨1, _⟩ => show (x 1 : ℕ) = 0; omega

theorem zeros2 : (![0, 0] : Fin 2 → ℕ) = fun _ => 0 := by funext a; fin_cases a <;> rfl

/-- A store over the whole scratch leaves its value. -/
theorem whole_piece (G : FVec Ideal S512x4096 .f32) (inb) :
    View.canon (Val := Elt Ideal) (s := S512x4096) (e := .f32) [⟨Rect.unit (s := S512x4096) ![0, 0] ![512, 4096] inb, G⟩] = G :=
  View.canon_unit_zero (Val := Elt Ideal) (e := .f32) (S := S512x4096) zeros2 inb G

/-- A segment loaded from the logits kept in the scratch is a segment of the logits. -/
theorem cut_scratch {sp : Space} (v : View sig .tc sp S512x4096 .f32) (G : FVec Ideal S512x4096 .f32) (inb) (off size : Fin 2 → ℕ) (inb') :
    v.readCov (Val := Elt Ideal) [⟨Rect.unit (s := S512x4096) ![0, 0] ![512, 4096] inb, G⟩] (Rect.unit (s := S512x4096) off size inb').toLoadRect =
      View.ld (S := S512x4096) (e' := .f32) G (Rect.unit (s := S512x4096) off size inb') := by
  rw [View.readCov_eq_canon', whole_piece]

/-- The whole row block is loaded. -/
theorem ld_x (X : Vec Ideal S512x2048 .f32) (inb) : View.ld (S := S512x2048) (e' := .f32) X (Rect.unit (s := S512x2048) ![0, 0] ![512, 2048] inb) = X :=
  View.ld_unit_zero (S := S512x2048) zeros2 inb X

/-- The whole weight block is loaded. -/
theorem ld_w (X : Vec Ideal S4096x2048 .f32) (inb) : View.ld (S := S4096x2048) (e' := .f32) X (Rect.unit (s := S4096x2048) ![0, 0] ![4096, 2048] inb) = X :=
  View.ld_unit_zero (S := S4096x2048) zeros2 inb X

variable (V : (c : Dev nD) → (b : Ref sig Kind.tc) → Buf (Elt Ideal) (c.tc.loc b)) (c : Dev nD)

/-- The block's values at all the nodes: the kernel's product of the row block with the padded weights. -/
def logits (t : Fin cfg0.N) : FVec Ideal S512x4096 .f32 := k0_pay2 (iblk0 V c 0 t) (iblk0 V c 1 t)

/-- The block of node numbers holds the walk's nodes. -/
theorem nodes_block (t : Fin cfg0.N) (r : Fin 512) (d : Fin 12) :
    (outsAt0 V c t).1 (ix2 r d) = nodesAt (logits V c t) d (ix2 r 0) := by
  unfold outsAt0 out0_A_2
  dsimp only
  rw [View.read_writes_eq_canon _ _ _ (cover0_A_2 c _ _ _ _ _ _ _ _ _ _ _ _ _)]
  refine View.canon_eq_of_allAt _ _ _ (cover0_A_2 c _ _ _ _ _ _ _ _ _ _ _ _ _ _) ?_
  unfold kernelRun0_A
  dsimp only
  sl_unfold_words
  simp only [View.readAt_eq_ld, (hs0_0 t).read_unread, (hs0_1 t).read_unread, cut_scratch, ld_x, ld_w]
  unfold logits
  generalize k0_pay2 (iblk0 V c 0 t) (iblk0 V c 1 t) = G
  simp only [depth0, depth1, depth2, depth3, depth4, depth5, depth6, depth7, depth8, depth9, depth10, depth11]
  rw [show (k0_pay4 : IVec Col 32) = nodesAt G 0 from (depth0 G).1]
  repeat refine View.allAt_cons_unit _ _ _ _ _ (colAt (e := .i32) (nodesAt G) r d _) ?_
  exact View.allAt_nil _ _

/-- The block of activations holds those of the walk's values. -/
theorem acts_block (t : Fin cfg0.N) (r : Fin 512) (d : Fin 12) :
    (outsAt0 V c t).2 (ix2 r d) = actsAt (logits V c t) d (ix2 r 0) := by
  unfold outsAt0 out0_A_3
  dsimp only
  rw [View.read_writes_eq_canon _ _ _ (cover0_A_3 c _ _ _ _ _ _ _ _ _ _ _ _ _)]
  refine View.canon_eq_of_allAt _ _ _ (cover0_A_3 c _ _ _ _ _ _ _ _ _ _ _ _ _ _) ?_
  unfold kernelRun0_A
  dsimp only
  sl_unfold_words
  simp only [View.readAt_eq_ld, (hs0_0 t).read_unread, (hs0_1 t).read_unread, cut_scratch, ld_x, ld_w]
  unfold logits
  generalize k0_pay2 (iblk0 V c 0 t) (iblk0 V c 1 t) = G
  simp only [depth0, depth1, depth2, depth3, depth4, depth5, depth6, depth7, depth8, depth9, depth10, depth11]
  repeat refine View.allAt_cons_unit _ _ _ _ _ (colAt (e := .f32) (actsAt G) r d _) ?_
  exact View.allAt_nil _ _

end Cert.Proof.RouteBlock

end
-- ==== Proof.OutBlock.lean ====
/- The output kernel on one block: the twelve activations added at their nodes' columns of a zeroed block, and the product
   of that block with the padded output weights. -/
module

public import proofs.«01_k».proof.Proof.RouteBlock

@[expose] public section

noncomputable section

namespace Cert.Proof.OutBlock

open Idealize.ShloMosaic Idealize.ShloMosaic.TcCoe Idealize.SL.Sem Idealize.ShloMosaic.ValueIdx
open Cert.KernelIdeal Cert.KernelIdeal.Gen
open Cert.Proof.Tree Cert.Proof.Segment Cert.Proof.Route Cert.Proof.RouteBlock

/-- A column of a block of twelve. -/
def colOf {α : Type} (N : S512x12.Idx → α) (k : ℕ) : Col.Idx → α := fun i => N (ix2 (i 0) (Fin.ofNat 12 k))

/-- A loaded column is the block's column. -/
theorem ld_col {e : EltTy} (N : Vec Ideal S512x12 e) (k : ℕ) (inb) :
    View.ld (S := S512x12) (Val := Elt Ideal) (e' := e) N (Rect.unit (s := S512x12) ![0, k] ![512, 1] inb) = colOf N k := by
  have hk : k + 1 ≤ 12 := inb 1
  funext i
  refine View.ld_unit_apply_of (S := S512x12) (Val := Elt Ideal) (e := e) N _ _ inb i _ fun a => ?_
  have hi : (i 1 : ℕ) < 1 := (i 1).isLt
  match a with
  | ⟨0, _⟩ => exact (Nat.zero_add _).symm
  | ⟨1, _⟩ => show k % 12 = k + i 1; rw [Nat.mod_eq_of_lt (by omega)]; omega

/-- The update of a depth's segment: the coefficient added at the node's column. -/
def upd (d : ℕ) (n : IVec Col 32) (g : FVec Ideal Col .f32) (v : FVec Ideal (Seg (wid d)) .f32) : FVec Ideal (Seg (wid d)) .f32 :=
  shapeCast (Seg (wid d)) (bump (wid d) (mask d (shapeCast Col n rfl)) (shapeCast Col (shapeCast Col g rfl) rfl) v (broadcasts d)) rfl

theorem upd_apply {d : ℕ} (n : IVec Col 32) (g : FVec Ideal Col .f32) (v : FVec Ideal (Seg (wid d)) .f32) (r : Fin 512) (k : Fin (wid d)) {m : ℕ}
    (hm : m < 4096) (hn : n (ix2 r 0) = BitVec.ofNat 32 m) :
    upd d n g v (ix2 r k) = v (ix2 r k) + if lo d + k = m then g (ix2 r 0) else 0 := by
  unfold upd
  rw [shapeCast_self, shapeCast_self, shapeCast_self, shapeCast_self]
  exact bump_apply _ _ _ _ r k (hits_apply (lo_wid d) n _ _ r k hm hn)

/-- The kernel's named values are the updates of the segments it loads, for the first seven depths. -/
theorem upd128 (n : IVec Col 32) (g : FVec Ideal Col .f32) (X : FVec Ideal S512x4096 .f32) :
    k1_pay3 n g (cut128 X) = upd 0 n g (seg X 0) ∧ k1_pay5 (cut128 X) (k1_pay4 n g) = upd 1 n g (seg X 1) ∧
    k1_pay6 n g (cut128 X) = upd 2 n g (seg X 2) ∧ k1_pay8 (k1_pay7 n g (cut128 X)) = upd 3 n g (seg X 3) ∧
    k1_pay9 n g (cut128 X) = upd 4 n g (seg X 4) ∧ k1_pay11 (k1_pay10 n g (cut128 X)) = upd 5 n g (seg X 5) ∧
    k1_pay12 n g (cut128 X) = upd 6 n g (seg X 6) := ⟨rfl, rfl, rfl, rfl, rfl, rfl, rfl⟩

/-- And for the last five. -/
theorem updWide (n : IVec Col 32) (g : FVec Ideal Col .f32) (X : FVec Ideal S512x4096 .f32) :
    k1_pay13 n g (cut256 X) = upd 7 n g (seg X 7) ∧ k1_pay14 n g (cut384 X) = upd 8 n g (seg X 8) ∧
    k1_pay15 n g (cut640 X) = upd 9 n g (seg X 9) ∧
    k1_pay16 (iota .tc S512x1152 32 [1] iota_S512x1152_d1_w32) n g (cut1152 X) = upd 10 n g (seg X 10) ∧
    k1_pay17 n g (cut2176 X) = upd 11 n g (seg X 11) := ⟨rfl, rfl, rfl, rfl, rfl⟩

section
variable (N : Vec Ideal S512x12 .i32) (Gs : Vec Ideal S512x12 .f32)

/-- The stores into the coefficient block before a depth, the latest first. -/
def pieces : ℕ → List (View.Piece (Elt Ideal) S512x4096 .f32)
  | 0 => [⟨Rect.unit (s := S512x4096) ![0, 0] ![512, 4096] inb_S512x4096_S512x4096_0_0, k1_pay2 (F := Ideal)⟩]
  | d + 1 => ⟨Rect.unit (s := S512x4096) ![0, lo d] ![512, wid d] (inBlock d),
      upd d (colOf N d) (colOf Gs d) (seg (View.canon (pieces d)) d)⟩ :: pieces d

/-- The coefficient block before a depth. -/
def coeff (d : ℕ) : FVec Ideal S512x4096 .f32 := View.canon (pieces N Gs d)

theorem coeff_zero (r : Fin 512) (n : Fin 4096) : coeff N Gs 0 (ix2 r n) = 0 := by
  unfold coeff pieces
  rw [whole_piece]
  unfold k1_pay2
  rw [shapeCast_self]
  exact Ideal.ofBits_zero_f32

/-- One depth's store adds the coefficient at the node's column. -/
theorem coeff_succ (d : ℕ) (r : Fin 512) (n : Fin 4096) {m : ℕ} (hn : N (ix2 r (Fin.ofNat 12 d)) = BitVec.ofNat 32 m)
    (h1 : lo d ≤ m) (h2 : m < lo d + wid d) :
    coeff N Gs (d + 1) (ix2 r n) = coeff N Gs d (ix2 r n) + if (n : ℕ) = m then Gs (ix2 r (Fin.ofNat 12 d)) else 0 := by
  have hw := lo_wid d
  by_cases hin : lo d ≤ n ∧ (n : ℕ) < lo d + wid d
  · have e : (ix2 r n : S512x4096.Idx) = (Rect.unit (s := S512x4096) ![0, lo d] ![512, wid d] (inBlock d)).emb (ix2 r ⟨n - lo d, by omega⟩) :=
      funext fun a => Fin.ext (by
        rw [Rect.emb_apply]
        match a with
        | ⟨0, _⟩ => show (r : ℕ) = 0 + 1 * r; omega
        | ⟨1, _⟩ => show (n : ℕ) = lo d + 1 * (n - lo d); omega)
    have hs : seg (coeff N Gs d) d (ix2 r ⟨n - lo d, by omega⟩) = coeff N Gs d (ix2 r n) :=
      seg_apply _ d r _ n (by show (n : ℕ) = lo d + (n - lo d); omega)
    rw [← hs]
    refine (congrArg (coeff N Gs (d + 1)) e).trans ?_
    refine (View.canon_cons_emb _ _ _ _).trans ?_
    refine (upd_apply _ _ _ r _ (m := m) (by omega) hn).trans ?_
    refine congrArg₂ _ rfl (if_congr ?_ rfl rfl)
    show lo d + (n - lo d) = m ↔ _
    omega
  · rw [if_neg (by omega), add_zero]
    refine View.canon_cons_of_not_mem _ _ fun hmem => hin ?_
    obtain ⟨x, hx⟩ := (Rect.unit (s := S512x4096) ![0, lo d] ![512, wid d] (inBlock d)).exists_idx_of_mem hmem
    have h := congrArg Fin.val (congrFun hx 1)
    rw [Rect.idx_unit_val] at h
    have hx1 : (x 1 : ℕ) < wid d := (x 1).isLt
    have h' : lo d + (x 1 : ℕ) = n := h
    omega

/-- A value is added at each node's column. -/
theorem coeff_sum (r : Fin 512) (n : Fin 4096) (m : ℕ → ℕ) (hn : ∀ d < 12, N (ix2 r (Fin.ofNat 12 d)) = BitVec.ofNat 32 (m d))
    (hm : ∀ d < 12, lo d ≤ m d ∧ m d < lo d + wid d) : ∀ k ≤ 12,
    coeff N Gs k (ix2 r n) = ∑ d ∈ Finset.range k, if (n : ℕ) = m d then Gs (ix2 r (Fin.ofNat 12 d)) else 0
  | 0, _ => coeff_zero N Gs r n
  | k + 1, hk => by
    rw [coeff_succ N Gs k r n (hn k (by omega)) (hm k (by omega)).1 (hm k (by omega)).2, coeff_sum r n m hn hm k (by omega),
      Finset.sum_range_succ]

/-! The stores, folded depth by depth. -/

theorem store0 (inb) : ([⟨Rect.unit (s := S512x4096) ![0, 0] ![512, 4096] inb, k1_pay2 (F := Ideal)⟩] : List (View.Piece (Elt Ideal) S512x4096 .f32)) = pieces N Gs 0 := rfl

/-- The stores of the first seven depths, all into the first 128 columns. -/
theorem store128 (inb) :
    let st (d : ℕ) (w : FVec Ideal S512x128 .f32) : List (View.Piece (Elt Ideal) S512x4096 .f32) := ⟨Rect.unit (s := S512x4096) ![0, 0] ![512, 128] inb, w⟩ :: pieces N Gs d
    st 0 (upd 0 (colOf N 0) (colOf Gs 0) (seg (coeff N Gs 0) 0)) = pieces N Gs 1 ∧
    st 1 (upd 1 (colOf N 1) (colOf Gs 1) (seg (coeff N Gs 1) 1)) = pieces N Gs 2 ∧
    st 2 (upd 2 (colOf N 2) (colOf Gs 2) (seg (coeff N Gs 2) 2)) = pieces N Gs 3 ∧
    st 3 (upd 3 (colOf N 3) (colOf Gs 3) (seg (coeff N Gs 3) 3)) = pieces N Gs 4 ∧
    st 4 (upd 4 (colOf N 4) (colOf Gs 4) (seg (coeff N Gs 4) 4)) = pieces N Gs 5 ∧
    st 5 (upd 5 (colOf N 5) (colOf Gs 5) (seg (coeff N Gs 5) 5)) = pieces N Gs 6 ∧
    st 6 (upd 6 (colOf N 6) (colOf Gs 6) (seg (coeff N Gs 6) 6)) = pieces N Gs 7 := ⟨rfl, rfl, rfl, rfl, rfl, rfl, rfl⟩

theorem store7 (inb) : (⟨Rect.unit (s := S512x4096) ![0, 0] ![512, 256] inb, upd 7 (colOf N 7) (colOf Gs 7) (seg (coeff N Gs 7) 7)⟩ :: pieces N Gs 7 :
    List (View.Piece (Elt Ideal) S512x4096 .f32)) = pieces N Gs 8 := rfl

theorem store8 (inb) : (⟨Rect.unit (s := S512x4096) ![0, 128] ![512, 384] inb, upd 8 (colOf N 8) (colOf Gs 8) (seg (coeff N Gs 8) 8)⟩ :: pieces N Gs 8 :
    List (View.Piece (Elt Ideal) S512x4096 .f32)) = pieces N Gs 9 := rfl

theorem store9 (inb) : (⟨Rect.unit (s := S512x4096) ![0, 384] ![512, 640] inb, upd 9 (colOf N 9) (colOf Gs 9) (seg (coeff N Gs 9) 9)⟩ :: pieces N Gs 9 :
    List (View.Piece (Elt Ideal) S512x4096 .f32)) = pieces N Gs 10 := rfl

theorem store10 (inb) : (⟨Rect.unit (s := S512x4096) ![0, 896] ![512, 1152] inb, upd 10 (colOf N 10) (colOf Gs 10) (seg (coeff N Gs 10) 10)⟩ :: pieces N Gs 10 :
    List (View.Piece (Elt Ideal) S512x4096 .f32)) = pieces N Gs 11 := rfl

theorem store11 (inb) : (⟨Rect.unit (s := S512x4096) ![0, 1920] ![512, 2176] inb, upd 11 (colOf N 11) (colOf Gs 11) (seg (coeff N Gs 11) 11)⟩ :: pieces N Gs 11 :
    List (View.Piece (Elt Ideal) S512x4096 .f32)) = pieces N Gs 12 := rfl

/-- A load from the coefficient block before a depth. -/
theorem ld_scratch {sp : Space} (v : View sig .tc sp S512x4096 .f32) (d : ℕ) (off size : Fin 2 → ℕ) (inb) :
    v.readCov (pieces N Gs d) (Rect.unit (s := S512x4096) off size inb).toLoadRect =
      View.ld (S := S512x4096) (e' := .f32) (coeff N Gs d) (Rect.unit (s := S512x4096) off size inb) := by
  rw [View.readCov_eq_canon']
  rfl

/-- The whole coefficient block is loaded. -/
theorem ld_coeff (X : Vec Ideal S512x4096 .f32) (inb) : View.ld (S := S512x4096) (e' := .f32) X (Rect.unit (s := S512x4096) ![0, 0] ![512, 4096] inb) = X :=
  View.ld_unit_zero (S := S512x4096) zeros2 inb X

/-- The whole weight block is loaded. -/
theorem ld_w (X : Vec Ideal S2048x4096 .f32) (inb) : View.ld (S := S2048x4096) (e' := .f32) X (Rect.unit (s := S2048x4096) ![0, 0] ![2048, 4096] inb) = X :=
  View.ld_unit_zero (S := S2048x4096) zeros2 inb X

end

/-- A store over the whole output block leaves its value. -/
theorem whole_out (O : FVec Ideal S512x2048 .f32) (inb) :
    View.canon (Val := Elt Ideal) (s := S512x2048) (e := .f32) [⟨Rect.unit (s := S512x2048) ![0, 0] ![512, 2048] inb, O⟩] = O :=
  View.canon_unit_zero (Val := Elt Ideal) (e := .f32) (S := S512x2048) zeros2 inb O

variable (V : (c : Dev nD) → (b : Ref sig Kind.tc) → Buf (Elt Ideal) (c.tc.loc b)) (c : Dev nD)

/-- The output block is the product of the coefficient block with the padded weights. -/
theorem out_block (t : Fin cfg1.N) :
    outsAt1 V c t = k1_pay1 (coeff (iblk1 V c 0 t) (iblk1 V c 1 t) 12) (iblk1 V c 2 t) := by
  unfold outsAt1 out1_A_3
  rw [View.read_writes_eq_canon _ _ _ (cover1_A_3 c _ _ _ _ _ _ _ _ _ _ _ _ _ _)]
  unfold kernelRun1_A
  dsimp only
  sl_unfold_words
  simp only [View.readAt_eq_ld, (hs1_0 t).read_unread, (hs1_1 t).read_unread, (hs1_2 t).read_unread]
  generalize iblk1 V c 0 t = N
  generalize iblk1 V c 1 t = Gs
  generalize iblk1 V c 2 t = Wo
  simp only [ld_col, ld_scratch, upd128, updWide, store0 N Gs, store128, store7, store8, store9, store10, ld_w]
  rw [(updWide _ _ _).2.2.2.1]
  simp only [ld_scratch, updWide, store10, store11, ld_coeff]
  exact whole_out _ _

end Cert.Proof.OutBlock

end
-- ==== Proof.Result.lean ====
/- The result both programs compute, as plain mathematics over the three arrays. -/
module

public import proofs.«01_k».proof.Proof.Tree

@[expose] public section

noncomputable section

namespace Cert.Proof.Result

open Idealize.ShloMosaic Idealize.ShloMosaic.ValueIdx
open Cert.Proof.Tree

abbrev SX : Shape := ⟨2, ![8192, 2048]⟩
abbrev SIn : Shape := ⟨2, ![4095, 2048]⟩
abbrev SOut : Shape := ⟨2, ![2048, 4095]⟩

/-- The value of row `r` at node `n`: the product of the row with the node's input weights. -/
def value (x : FVec Ideal SX .f32) (w : FVec Ideal SIn .f32) (r : Fin 8192) (n : ℕ) : EReal :=
  if h : n < 4095 then ∑ k : Fin 2048, x (ix2 r k) * w (ix2 ⟨n, h⟩ k) else 0

/-- The output weight of column `j` at node `n`. -/
def weight (wo : FVec Ideal SOut .f32) (j : Fin 2048) (n : ℕ) : EReal :=
  if h : n < 4095 then wo (ix2 j ⟨n, h⟩) else 0

/-- The result: over the twelve nodes a row visits, the activation of its value times the output weight. -/
def result (x : FVec Ideal SX .f32) (w : FVec Ideal SIn .f32) (wo : FVec Ideal SOut .f32) (r : Fin 8192) (j : Fin 2048) : EReal :=
  ∑ d ∈ Finset.range 12, gelu (value x w r (node (value x w r) d)) * weight wo j (node (value x w r) d)

/-- Coefficients put at distinct places, multiplied with weights and summed over all places, give the sum over the
    coefficients alone. -/
theorem sum_places (m : ℕ → ℕ) (hinj : Function.Injective m) (hm : ∀ d < 12, m d < 4096) (g w : ℕ → EReal) :
    ∑ n : Fin 4096, (∑ d ∈ Finset.range 12, if (n : ℕ) = m d then g d else 0) * w n = ∑ d ∈ Finset.range 12, g d * w (m d) := by
  have h1 (n : ℕ) : (∑ d ∈ Finset.range 12, if n = m d then g d else 0) * w n = ∑ d ∈ Finset.range 12, if n = m d then g d * w (m d) else 0 := by
    by_cases h : ∃ d ∈ Finset.range 12, n = m d
    · obtain ⟨d, hd, e⟩ := h
      have ho (e' : ℕ) (he : e' ≠ d) : n ≠ m e' := fun h' => he (hinj (h'.symm.trans e))
      rw [Finset.sum_eq_single_of_mem d hd fun e' _ he => if_neg (ho e' he), Finset.sum_eq_single_of_mem d hd fun e' _ he => if_neg (ho e' he),
        if_pos e, if_pos e, ← e]
    · have h' : ∀ d ∈ Finset.range 12, n ≠ m d := fun d hd e => h ⟨d, hd, e⟩
      rw [Finset.sum_eq_zero fun d hd => if_neg (h' d hd), Finset.sum_eq_zero fun d hd => if_neg (h' d hd), zero_mul]
  simp only [h1]
  rw [Finset.sum_comm]
  refine Finset.sum_congr rfl fun d hd => ?_
  have hlt := hm d (Finset.mem_range.mp hd)
  rw [Fintype.sum_eq_single (⟨m d, hlt⟩ : Fin 4096) fun n hn => if_neg fun e => hn (Fin.ext e)]
  exact if_pos rfl

end Cert.Proof.Result

end
-- ==== Proof.Index.lean ====
/- Two spellings of an index by its coordinates, and that they agree. -/
module

public import Idealize.ShloMosaic.Lib.ValueIdx
public import Idealize.ShloMosaic.Lib.Pointwise

@[expose] public section

namespace Cert.Proof.Index

open Idealize.ShloMosaic.ValueIdx

/-- The two spellings of one coordinate agree. -/
theorem ix1_same {a : ℕ} (i : Fin a) : Idealize.ShloMosaic.ix1 i = ix1 i := by
  funext k; match k with | ⟨0, _⟩ => rfl

/-- The two spellings of a pair of coordinates agree. -/
theorem ix2_same {a b : ℕ} (i : Fin a) (j : Fin b) : Idealize.ShloMosaic.ix2 i j = ix2 i j := by
  funext k; match k with | ⟨0, _⟩ => rfl | ⟨1, _⟩ => rfl

/-- The two spellings of a triple of coordinates agree. -/
theorem ix3_same {a b c : ℕ} (i : Fin a) (j : Fin b) (k : Fin c) : Idealize.ShloMosaic.ix3 i j k = ix3 i j k := by
  funext e; match e with | ⟨0, _⟩ => rfl | ⟨1, _⟩ => rfl | ⟨2, _⟩ => rfl

end Cert.Proof.Index

end
-- ==== Proof.Entry.lean ====
/- What the kernel's regions find: the arguments as launched, the two weights padded by one node, and the two products
   entry by entry. -/
module

public import proofs.«01_k».proof.Proof.Result
public import proofs.«01_k».proof.Proof.Index
public import proofs.«01_k».proof.Proof.Gen.KernelIdeal.Frame
public import Idealize.ShloMosaic.Lib.Pointwise
public import Idealize.ShloMosaic.Lib.StableHlo.RunRead

@[expose] public section

noncomputable section

namespace Cert.Proof.Entry

open Idealize.ShloMosaic hiding ix1 ix2 ix3
open Idealize.ShloMosaic.TcCoe Idealize.SL.Sem Idealize.ShloMosaic.ValueIdx
open Cert.KernelIdeal Cert.KernelIdeal.Gen
open Cert.Proof.Index

/-- The first kernel's product, entry by entry. -/
theorem product_in (a : FVec Ideal S512x2048 .f32) (b : FVec Ideal S4096x2048 .f32) (r : Fin 512) (n : Fin 4096) :
    k0_pay2 a b (ix2 r n) = ∑ k : Fin 2048, a (ix2 r k) * b (ix2 n k) := by
  pointwise [k0_pay2]
  simp only [ix2_same]

/-- The second kernel's product, entry by entry. -/
theorem product_out (a : FVec Ideal S512x4096 .f32) (b : FVec Ideal S2048x4096 .f32) (r : Fin 512) (j : Fin 2048) :
    k1_pay1 a b (ix2 r j) = ∑ n : Fin 4096, a (ix2 r n) * b (ix2 j n) := by
  pointwise [k1_pay1]
  simp only [ix2_same]

variable (m : (ℓ : Loc nD τ sig) → Buf (Elt Ideal) ℓ) (ρ : Dev nD → PrngReg) (c : Dev nD)

/-- The rows, as launched. -/
abbrev argX : FVec Ideal S8192x2048 .f32 := m (c.tc.loc main_arg0)
/-- The input weights, as launched. -/
abbrev argIn : FVec Ideal S4095x2048 .f32 := m (c.tc.loc main_arg1)
/-- The output weights, as launched. -/
abbrev argOut : FVec Ideal S2048x4095 .f32 := m (c.tc.loc main_arg2)

/-- The first region finds the rows as launched. -/
theorem entry_x : (V4 m ρ c main_arg0 : FVec Ideal S8192x2048 .f32) = argX m c :=
  W4_args m ρ c main_arg0 (by decide)

/-- The stage padding the input weights leaves the padded weights, whatever it finds. -/
theorem stage_in (σ : Valuation τ sig (Elt Ideal)) : (StableHlo.after hostOps0_1 σ main_v0 : FVec Ideal S4096x2048 .f32)
    = pad S4096x2048 ![0, 0] ![1, 0] ![0, 0] (σ main_arg1 : FVec Ideal S4095x2048 .f32) (sitofp .f32 (σ main_c : IVec S_ 32) : FVec Ideal S_ .f32)
      pads_S4095x2048_S4096x2048_010_000 h_S_ := by
  simp only [hostOps0_1, StableHlo.after_cons, StableHlo.after_nil]
  after_reads_simp
  rfl

/-- The stage padding the output weights leaves the padded weights, whatever it finds. -/
theorem stage_out (σ : Valuation τ sig (Elt Ideal)) : (StableHlo.after hostOps0_3 σ main_v1 : FVec Ideal S2048x4096 .f32)
    = pad S2048x4096 ![0, 0] ![0, 1] ![0, 0] (σ main_arg2 : FVec Ideal S2048x4095 .f32) (sitofp .f32 (σ main_c_0 : IVec S_ 32) : FVec Ideal S_ .f32)
      pads_S2048x4095_S2048x4096_000_010 h_S_ := by
  simp only [hostOps0_3, StableHlo.after_cons, StableHlo.after_nil]
  after_reads_simp
  rfl

/-- The first region finds the input weights with one more node. -/
theorem entry_in : ∃ v : FVec Ideal S_ .f32, V4 m ρ c main_v0
    = pad S4096x2048 ![0, 0] ![1, 0] ![0, 0] (argIn m c) v pads_S4095x2048_S4096x2048_010_000 h_S_ := by
  refine ⟨sitofp .f32 (W1 m ρ c main_c : IVec S_ 32), (W4_of m ρ c main_v0 (by decide)).trans ((W3_of m ρ c main_v0 (by decide)).trans ?_)⟩
  refine (stage_in (W1 m ρ c)).trans ?_
  rw [W1_args m ρ c main_arg1 (by decide)]

/-- The second region finds the output weights with one more node. -/
theorem entry_out : ∃ v : FVec Ideal S_ .f32, V5 m ρ c main_v1
    = pad S2048x4096 ![0, 0] ![0, 1] ![0, 0] (argOut m c) v pads_S2048x4095_S2048x4096_000_010 h_S_ := by
  refine ⟨sitofp .f32 (W3 m ρ c main_c_0 : IVec S_ 32), (W5_of m ρ c main_v1 (by decide)).trans ?_⟩
  refine (stage_out (W3 m ρ c)).trans ?_
  rw [W3_args m ρ c main_arg2 (by decide)]

/-- At a node of the tree the padded input weights are the input weights. -/
theorem in_apply (n : Fin 4096) (h : (n : ℕ) < 4095) (k : Fin 2048) :
    (V4 m ρ c main_v0 : FVec Ideal S4096x2048 .f32) (ix2 n k) = argIn m c (ix2 ⟨n, h⟩ k) := by
  obtain ⟨v, e⟩ := entry_in m ρ c
  rw [e]
  pointwise
  rw [dif_pos (show ((ix2 n k 0 : Fin 4096) : ℕ) < 4095 from h), ix2_same]

/-- At a node of the tree the padded output weights are the output weights. -/
theorem out_apply (j : Fin 2048) (n : Fin 4096) (h : (n : ℕ) < 4095) :
    (V5 m ρ c main_v1 : FVec Ideal S2048x4096 .f32) (ix2 j n) = argOut m c (ix2 j ⟨n, h⟩) := by
  obtain ⟨v, e⟩ := entry_out m ρ c
  rw [e]
  pointwise
  rw [dif_pos (show ((ix2 j n 1 : Fin 4096) : ℕ) < 4095 from h), ix2_same]

end Cert.Proof.Entry

end
-- ==== Proof.Arrays.lean ====
/- From blocks to arrays: the nodes and activations the first region leaves, and the result the second region leaves. -/
module

public import proofs.«01_k».proof.Proof.OutBlock
public import proofs.«01_k».proof.Proof.Entry
public import Idealize.ShloMosaic.Lib.Pipeline.ValueKit

@[expose] public section

noncomputable section

namespace Cert.Proof.Arrays

open Idealize.ShloMosaic hiding ix1 ix2 ix3 eq_ix2
open Idealize.ShloMosaic.TcCoe Idealize.SL.Sem Idealize.ShloMosaic.ValueIdx
open Cert.KernelIdeal Cert.KernelIdeal.Gen
open Cert.Proof.Tree Cert.Proof.Segment Cert.Proof.Route Cert.Proof.RouteBlock Cert.Proof.OutBlock Cert.Proof.Result Cert.Proof.Entry

/-- Where the first region's blocks lie: point `t` takes 512 rows, and the weights whole. -/
theorem idx0 : ∀ t : Fin cfg0.N, win0_0.index t = ![t.val, 0] ∧ win0_1.index t = ![0, 0] ∧ win0_2.index t = ![t.val, 0]
    ∧ win0_3.index t = ![t.val, 0] ∧ t.val < 16 :=
  (by decide +kernel : ∀ t : Fin grid0.N, _)

/-- Where the second region's blocks lie. -/
theorem idx1 : ∀ t : Fin cfg1.N, win1_0.index t = ![t.val, 0] ∧ win1_1.index t = ![t.val, 0] ∧ win1_2.index t = ![0, 0]
    ∧ win1_3.index t = ![t.val, 0] ∧ t.val < 16 :=
  (by decide +kernel : ∀ t : Fin grid1.N, _)

/-- The row a block's row is, at point `t`. -/
def row (t : ℕ) (ht : t < 16) (r : Fin 512) : Fin 8192 := ⟨t * 512 + r, by omega⟩

section Blocks

variable (V : (c : Dev nD) → (b : Ref sig Kind.tc) → Buf (Elt Ideal) (c.tc.loc b)) (c : Dev nD)

/-- The first region's block of rows. -/
theorem rows_block (t : Fin cfg0.N) (ht : t.val < 16) (r : Fin 512) (k : Fin 2048) :
    (iblk0 V c 0 t : FVec Ideal S512x2048 .f32) (ix2 r k) = (V c main_arg0 : FVec Ideal S8192x2048 .f32) (ix2 (row t ht r) k) := by
  blk_simp [iblk0]
  blk_ext [idx0 t, row]

/-- The first region takes the padded input weights whole. -/
theorem in_block (t : Fin cfg0.N) (n : Fin 4096) (k : Fin 2048) :
    (iblk0 V c 1 t : FVec Ideal S4096x2048 .f32) (ix2 n k) = (V c main_v0 : FVec Ideal S4096x2048 .f32) (ix2 n k) := by
  blk_simp [iblk0]
  blk_ext [idx0 t]

/-- The second region's block of nodes. -/
theorem nodes_in_block (t : Fin cfg1.N) (ht : t.val < 16) (r : Fin 512) (d : Fin 12) :
    (iblk1 V c 0 t : IVec S512x12 32) (ix2 r d) = (V c main_v2_0 : IVec S8192x12 32) (ix2 (row t ht r) d) := by
  blk_simp [iblk1]
  blk_ext [idx1 t, row]

/-- The second region's block of activations. -/
theorem acts_in_block (t : Fin cfg1.N) (ht : t.val < 16) (r : Fin 512) (d : Fin 12) :
    (iblk1 V c 1 t : FVec Ideal S512x12 .f32) (ix2 r d) = (V c main_v2_1 : FVec Ideal S8192x12 .f32) (ix2 (row t ht r) d) := by
  blk_simp [iblk1]
  blk_ext [idx1 t, row]

/-- The second region takes the padded output weights whole. -/
theorem out_in_block (t : Fin cfg1.N) (j : Fin 2048) (n : Fin 4096) :
    (iblk1 V c 2 t : FVec Ideal S2048x4096 .f32) (ix2 j n) = (V c main_v1 : FVec Ideal S2048x4096 .f32) (ix2 j n) := by
  blk_simp [iblk1]
  blk_ext [idx1 t]

/-- Where a block of nodes is written. -/
theorem nodes_place (t : Fin cfg0.N) (ht : t.val < 16) (r : Fin 512) (d : Fin 12) :
    (win0_2.blk t).view.emb (ix2 r d) = (ix2 (row t ht r) d : S8192x12.Idx) := by
  blk_ext [idx0 t, row]

/-- Where a block of activations is written. -/
theorem acts_place (t : Fin cfg0.N) (ht : t.val < 16) (r : Fin 512) (d : Fin 12) :
    (win0_3.blk t).view.emb (ix2 r d) = (ix2 (row t ht r) d : S8192x12.Idx) := by
  blk_ext [idx0 t, row]

/-- Where a block of results is written. -/
theorem out_place (t : Fin cfg1.N) (ht : t.val < 16) (r : Fin 512) (j : Fin 2048) :
    (win1_3.blk t).view.emb (ix2 r j) = (ix2 (row t ht r) j : S8192x2048.Idx) := by
  blk_ext [idx1 t, row]

end Blocks

variable (m : (ℓ : Loc nD τ sig) → Buf (Elt Ideal) ℓ) (ρ : Dev nD → PrngReg) (c : Dev nD)

/-- The value of a row at a node, from the arrays as launched. -/
abbrev val (r : Fin 8192) : ℕ → EReal := value (argX m c) (argIn m c) r

/-- The nodes array: at row and depth the node the row visits. -/
def nodesG : IVec S8192x12 32 := fun i => BitVec.ofNat 32 (node (val m c (i 0)) (i 1).val)

/-- The activations array: at row and depth the activation of the row's value at the node it visits. -/
def actsG : FVec Ideal S8192x12 .f32 := fun i => gelu (val m c (i 0) (node (val m c (i 0)) (i 1).val))

/-- The result array. -/
def resultG : FVec Ideal S8192x2048 .f32 := fun i => result (argX m c) (argIn m c) (argOut m c) (i 0) (i 1)

/-- A block's product at a node of the tree is the row's value there. -/
theorem logits_value (t : Fin cfg0.N) (ht : t.val < 16) (r : Fin 512) (n : Fin 4096) (hn : (n : ℕ) < 4095) :
    logits (V4 m ρ) c t (ix2 r n) = val m c (row t ht r) n := by
  refine (product_in _ _ r n).trans ?_
  simp only [val, value, hn, dif_pos]
  refine Finset.sum_congr rfl fun k _ => ?_
  rw [rows_block (V4 m ρ) c t ht r k, in_block (V4 m ρ) c t n k, in_apply m ρ c n hn k, entry_x m ρ c]

/-- The first region leaves the nodes. -/
theorem nodes_array : (dat0 (V4 m ρ) c).arrAt 2 cfg0.N = nodesG m c := by
  refine (dat0 (V4 m ρ) c).arrAt_eq_of_covers 2 _ (by decide +kernel) fun t hf y => ?_
  blk_simp
  rw [after0_2]
  have ht := (idx0 t).2.2.2.2
  obtain ⟨r, d, rfl⟩ : ∃ (r : Fin 512) (d : Fin 12), y = ix2 r d := ⟨y 0, y 1, eq_ix2 y⟩
  rw [nodes_place t ht r d, nodes_block (V4 m ρ) c t r d]
  exact nodes_eq _ r _ (fun n hn => logits_value m ρ c t ht r n hn) d d.isLt

/-- The first region leaves the activations. -/
theorem acts_array : (dat0 (V4 m ρ) c).arrAt 3 cfg0.N = actsG m c := by
  refine (dat0 (V4 m ρ) c).arrAt_eq_of_covers 3 _ (by decide +kernel) fun t hf y => ?_
  blk_simp
  rw [after0_3]
  have ht := (idx0 t).2.2.2.2
  obtain ⟨r, d, rfl⟩ : ∃ (r : Fin 512) (d : Fin 12), y = ix2 r d := ⟨y 0, y 1, eq_ix2 y⟩
  rw [acts_place t ht r d, acts_block (V4 m ρ) c t r d]
  refine (act_apply _ _).trans (congrArg gelu ?_)
  exact scores_eq _ r _ (fun n hn => logits_value m ρ c t ht r n hn) d d.isLt

/-- The second region finds the nodes. -/
theorem entry_nodes : V5 m ρ c main_v2_0 = nodesG m c := (W5_arr m ρ c 2).trans (nodes_array m ρ c)

/-- The second region finds the activations. -/
theorem entry_acts : V5 m ρ c main_v2_1 = actsG m c := (W5_arr m ρ c 3).trans (acts_array m ρ c)

/-- The second region leaves the result. -/
theorem result_array : (dat1 (V5 m ρ) c).arrAt 3 cfg1.N = resultG m c := by
  refine (dat1 (V5 m ρ) c).arrAt_eq_of_covers 3 _ (by decide +kernel) fun t hf y => ?_
  blk_simp
  rw [after1_3]
  have ht := (idx1 t).2.2.2.2
  obtain ⟨r, j, rfl⟩ : ∃ (r : Fin 512) (j : Fin 2048), y = ix2 r j := ⟨y 0, y 1, eq_ix2 y⟩
  rw [out_place t ht r j, out_block (V5 m ρ) c t]
  refine (product_out _ _ r j).trans ?_
  have hN (d : ℕ) (hd : d < 12) : (iblk1 (V5 m ρ) c 0 t : IVec S512x12 32) (ix2 r (Fin.ofNat 12 d)) = BitVec.ofNat 32 (node (val m c (row t ht r)) d) := by
    rw [nodes_in_block (V5 m ρ) c t ht r (Fin.ofNat 12 d), entry_nodes m ρ c]
    exact congrArg (fun e => BitVec.ofNat 32 (node (val m c (row t ht r)) e)) (Nat.mod_eq_of_lt hd)
  have hG (d : ℕ) (hd : d < 12) : (iblk1 (V5 m ρ) c 1 t : FVec Ideal S512x12 .f32) (ix2 r (Fin.ofNat 12 d))
      = gelu (val m c (row t ht r) (node (val m c (row t ht r)) d)) := by
    rw [acts_in_block (V5 m ρ) c t ht r (Fin.ofNat 12 d), entry_acts m ρ c]
    exact congrArg (fun e => gelu (val m c (row t ht r) (node (val m c (row t ht r)) e))) (Nat.mod_eq_of_lt hd)
  refine Eq.trans ?_ (sum_places (node (val m c (row t ht r))) (node_injective _) (fun d hd => (node_lt _ hd).trans (by decide))
    (fun d => gelu (val m c (row t ht r) (node (val m c (row t ht r)) d))) (weight (argOut m c) j))
  refine Finset.sum_congr rfl fun n _ => ?_
  have hc : coeff (iblk1 (V5 m ρ) c 0 t) (iblk1 (V5 m ρ) c 1 t) 12 (ix2 r n)
      = ∑ d ∈ Finset.range 12, if (n : ℕ) = node (val m c (row t ht r)) d then gelu (val m c (row t ht r) (node (val m c (row t ht r)) d)) else 0 := by
    rw [coeff_sum _ _ r n (node (val m c (row t ht r))) hN (fun d hd => node_in _ hd) 12 le_rfl]
    exact Finset.sum_congr rfl fun d hd => by rw [hG d (Finset.mem_range.mp hd)]
  rw [hc]
  by_cases hn : (n : ℕ) < 4095
  · rw [out_in_block (V5 m ρ) c t j n, out_apply m ρ c j n hn, weight, dif_pos hn]
  · rw [Finset.sum_eq_zero fun d hd => if_neg fun e => hn (lt_of_eq_of_lt e (node_lt _ (Finset.mem_range.mp hd))), zero_mul, zero_mul]

/-- The result buffer after the run. -/
theorem kernel_result : W6 m ρ c main_v3 = resultG m c := (W6_arr m ρ c 3).trans (result_array m ρ c)

end Cert.Proof.Arrays

end
-- ==== Proof.KernelRun.lean ====
/- The kernel's run with its result: the launch as in the generated frame, the result read off beside the arguments. -/
module

public import proofs.«01_k».proof.Proof.Arrays
public import proofs.«01_k».proof.Proof.Gen.KernelIdeal.Frame

@[expose] public section

set_option maxRecDepth 16384

noncomputable section

namespace Cert.Proof.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.Proof.Arrays

variable (m : (ℓ : Loc nD τ sig) → Buf (Elt Ideal) ℓ) (ρ : Dev nD → PrngReg)

set_option backward.isDefEq.respectTransparency.types false in
/-- Every execution ends with the plain result in the result array and the arguments as launched. -/
theorem run_result : θ_run defs (onTc (τ := τ) (main (F := Ideal))) ⟨m, fun _ => 0, ρ⟩ (fun r => ∀ c : Dev nD,
      r.2.mem ((c.tc : Thread nD τ).loc main_v3) = resultG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v3 (by decide))).trans (kernel_result m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.Proof.KernelRun

end
-- ==== Proof.Reads.lean ====
/- The reference's two gathers read at an index: the value of a row at its node, and a node's row of output weights. -/
module

public import proofs.«01_k».proof.Proof.Gen.ReferenceIdeal
public import Idealize.ShloMosaic.Lib.ValueIdx
public import Idealize.ShloMosaic.Lib.WordCmp
public import Idealize.ShloMosaic.Lib.Pointwise

@[expose] public section

noncomputable section

namespace Cert.Proof.Reads

open Idealize.ShloMosaic hiding ix1 ix2 ix3 eq_ix1 eq_ix2 eq_ix3
open Idealize.ShloMosaic.ValueIdx
open Cert.ReferenceIdeal Cert.ReferenceIdeal.Gen

abbrev takeValue := gather_S8192x4095_S8192x1x1_S8192x1_n_1_0_0_1_2_11
abbrev takeWeights := gather_S4095x2048_S8192x12x1_S8192x12x2048_2_0_n_n_0_2_12048

/-- A number that fits, clamped to the nodes, is itself. -/
theorem clamp_node {n : ℕ} (hn : n < 4095) : min (BitVec.ofNat 32 n).toInt.toNat 4094 = n := by
  rw [WordCmp.toInt_ofNat_of_lt (by omega), Int.toNat_natCast]
  omega

/-- The gather of one value per row: the row's entry at the node the index names. -/
theorem takeValue_apply {α : Type} (x : S8192x4095.Idx → α) (idx : IVec S8192x1x1 32) (r : Fin 8192) (n : ℕ) (hn : n < 4095)
    (hidx : idx (ix3 r 0 0) = BitVec.ofNat 32 n) : Host.gather takeValue x idx (ix2 r 0) = x (ix2 r ⟨n, hn⟩) := by
  refine congrArg x (funext fun a => Fin.ext ?_)
  match a with
  | ⟨0, _⟩ =>
    show takeValue.start (ix2 r 0) idx 0 + takeValue.batchCoord (ix2 r 0) 0 + takeValue.offCoord (ix2 r 0) 0 = r.val
    rw [takeValue.start_batching _ _ _ (List.mem_singleton.mpr rfl), takeValue.offCoord_eq_zero _ _ fun h => ((takeValue.mem_sKept _).mp h).2 (List.mem_singleton.mpr rfl)]
    rw [Nat.zero_add, Nat.add_zero, GatherDims.batchCoord, dif_pos (show (0 : Fin 2) ∈ takeValue.operandBatchingDims from List.mem_singleton.mpr rfl)]
    rfl
  | ⟨1, _⟩ =>
    show takeValue.start (ix2 r 0) idx 1 + takeValue.batchCoord (ix2 r 0) 1 + takeValue.offCoord (ix2 r 0) 1 = n
    rw [takeValue.batchCoord_eq_zero _ _ (by decide), takeValue.offCoord_eq_zero _ _ fun h => ((takeValue.mem_sKept _).mp h).1 (List.mem_singleton.mpr rfl)]
    rw [Nat.add_zero, GatherDims.start, dif_pos (show (1 : Fin 2) ∈ takeValue.startIndexMap from List.mem_singleton.mpr rfl)]
    refine Eq.trans ?_ (clamp_node hn)
    rw [← hidx]
    refine congrArg (fun i => min (idx i).toInt.toNat 4094) (funext fun b => Fin.ext ?_)
    match b with
    | ⟨0, _⟩ => rfl
    | ⟨1, _⟩ => rfl
    | ⟨2, _⟩ => rfl

/-- The gather of a row of weights per row and depth: the weights of the node the index names. -/
theorem takeWeights_apply {α : Type} (x : S4095x2048.Idx → α) (idx : IVec S8192x12x1 32) (r : Fin 8192) (d : Fin 12) (j : Fin 2048) (n : ℕ)
    (hn : n < 4095) (hidx : idx (ix3 r d 0) = BitVec.ofNat 32 n) : Host.gather takeWeights x idx (ix3 r d j) = x (ix2 ⟨n, hn⟩ j) := by
  refine congrArg x (funext fun a => Fin.ext ?_)
  match a with
  | ⟨0, _⟩ =>
    show takeWeights.start (ix3 r d j) idx 0 + takeWeights.batchCoord (ix3 r d j) 0 + takeWeights.offCoord (ix3 r d j) 0 = n
    rw [takeWeights.batchCoord_eq_zero _ _ List.not_mem_nil, takeWeights.offCoord_eq_zero _ _ fun h => ((takeWeights.mem_sKept _).mp h).1 (List.mem_singleton.mpr rfl)]
    rw [Nat.add_zero, GatherDims.start, dif_pos (show (0 : Fin 2) ∈ takeWeights.startIndexMap from List.mem_singleton.mpr rfl)]
    refine Eq.trans ?_ (clamp_node hn)
    rw [← hidx]
    refine congrArg (fun i => min (idx i).toInt.toNat 4094) (funext fun b => Fin.ext ?_)
    match b with
    | ⟨0, _⟩ => rfl
    | ⟨1, _⟩ => rfl
    | ⟨2, _⟩ => rfl
  | ⟨1, _⟩ =>
    show takeWeights.start (ix3 r d j) idx 1 + takeWeights.batchCoord (ix3 r d j) 1 + takeWeights.offCoord (ix3 r d j) 1 = j.val
    rw [takeWeights.batchCoord_eq_zero _ _ List.not_mem_nil, GatherDims.start, dif_neg (show (1 : Fin 2) ∉ takeWeights.startIndexMap by decide)]
    rw [Nat.zero_add, GatherDims.offCoord, dif_pos (show (1 : Fin 2) ∈ takeWeights.sKept from (takeWeights.mem_sKept _).mpr ⟨by decide, by decide⟩)]
    rfl

end Cert.Proof.Reads

end
-- ==== Proof.RefStep.lean ====
/- One step of the reference's loop: every row takes its value at its node, notes both, and goes to the next node. -/
module

public import proofs.«01_k».proof.Proof.Result
public import proofs.«01_k».proof.Proof.Index
public import proofs.«01_k».proof.Proof.Reads
public import proofs.«01_k».proof.Proof.Gen.ReferenceIdeal.Run
public import Idealize.ShloMosaic.Lib.Pointwise
public import Idealize.ShloMosaic.Lib.ReduceAll

@[expose] public section

noncomputable section

namespace Cert.Proof.RefStep

open Idealize.ShloMosaic hiding ix1 ix2 ix3 eq_ix1 eq_ix2 eq_ix3
open Idealize.ShloMosaic.TcCoe Idealize.SL.Sem Idealize.ShloMosaic.ValueIdx
open Cert.ReferenceIdeal Cert.ReferenceIdeal.Gen Cert.ReferenceIdeal.Value
open Cert.Proof.Index Cert.Proof.Tree Cert.Proof.Result Cert.Proof.Reads

/-- A node's number is not negative, so an index given by it is taken as it is. -/
theorem wrap_node {n : ℕ} (hn : n < 4095) :
    Scalar.select (IntOp.cmpi .slt (BitVec.ofNat 32 n) 0#32) (IntOp.addi (BitVec.ofNat 32 n) 4095#32) (BitVec.ofNat 32 n) = BitVec.ofNat 32 n := by
  rw [WordCmp.cmpi_slt_ofNat (by omega) (by omega), decide_eq_false (by omega)]
  exact if_neg (by decide)

/-- A node's number lies between the first and the last node. -/
theorem inside_node {n : ℕ} (hn : n < 4095) :
    IntOp.andi (IntOp.cmpi .sge (BitVec.ofNat 32 n) 0#32) (IntOp.cmpi .sle (BitVec.ofNat 32 n) 4094#32) = 1#1 := by
  rw [WordCmp.cmpi_sge_ofNat (by omega) (by omega), WordCmp.cmpi_sle_ofNat (by omega) (by omega), decide_eq_true (by omega), decide_eq_true (by omega)]
  rfl

variable (V : Valuation τ sig (Elt Ideal)) (a : Fin 8192 → ℕ) (ha : ∀ r, a r < 4095)
  (hV : ∀ r : Fin 8192, (V main_v5_2 : IVec S8192 32) (ix1 r) = BitVec.ofNat 32 (a r))

include ha hV in
/-- The index each row's value is taken at is its node. -/
theorem index_apply (r : Fin 8192) (b c : Fin 1) : (res_main_while0b_call0_v5 V : IVec S8192x1x1 32) (ix3 r b c) = BitVec.ofNat 32 (a r) := by
  pointwise [res_main_while0b_call0_v5, res_main_while0b_v24]
  have h : (V main_v5_2 : IVec S8192 32) (Idealize.ShloMosaic.ix1 (ix3 r b c 0)) = BitVec.ofNat 32 (a r) := by
    rw [ix1_same]; exact hV r
  exact (congrArg (fun w => Scalar.select (IntOp.cmpi .slt w 0#32) (IntOp.addi w 4095#32) w) h).trans (wrap_node (ha r))

/-- A column of one entry per row, read as a vector. -/
theorem column_apply {α : Type} (x : S8192x1.Idx → α) (r : Fin 8192) : shapeCast S8192 x shapeCasts_S8192x1_S8192 (ix1 r) = x (ix2 r 0) := by
  pointwise
  rw [ix2_same]

/-- Where the mask is one, a selection takes its first operand. -/
theorem select_first {α : Type} (m : IVec S8192x1 1) (x y : S8192x1.Idx → α) (i : S8192x1.Idx) (h : m i = 1#1) : select m x y i = x i := by
  rw [select_apply, h, select_one]

include ha hV in
/-- The value each row takes is its entry at its node. -/
theorem score_apply (r : Fin 8192) :
    (res_main_while0b_v26 V : FVec Ideal S8192 .f32) (ix1 r) = (V main_v5_0 : FVec Ideal S8192x4095 .f32) (ix2 r ⟨a r, ha r⟩) := by
  unfold res_main_while0b_v26
  refine (column_apply _ r).trans ?_
  refine (select_first _ _ _ _ (Host.reduce_andi_one _ _ _ _ _ rfl fun i => ?_)).trans
    (takeValue_apply _ _ r (a r) (ha r) (index_apply V a ha hV r 0 0))
  obtain ⟨r', b, c, rfl⟩ : ∃ (r' : Fin 8192) (b c : Fin 1), i = ix3 r' b c := ⟨i 0, i 1, i 2, eq_ix3 i⟩
  pointwise
  rw [index_apply V a ha hV r' b c]
  exact inside_node (ha r')

/-- Twice a node, plus one, plus one more where the value is at least zero. -/
theorem next_word (l : IVec S8192 32) (s : FVec Ideal S8192 .f32) (r : Fin 8192) {n : ℕ} (h : l (ix1 r) = BitVec.ofNat 32 n) :
    addi (addi (muli l (broadcastInDim S8192 ![] bcast_S_S8192 (constantI S_ 32 2#32)))
      (extui 32 (cmpf .oge s (broadcastInDim S8192 ![] bcast_S_S8192 (constant S_ .f32 0x00000000#32))) natLt_1_32))
      (broadcastInDim S8192 ![] bcast_S_S8192 (constantI S_ 32 1#32)) (ix1 r) = BitVec.ofNat 32 (2 * n + turn (s (ix1 r)) + 1) := by
  show l (ix1 r) * 2#32 + (Ideal.cmp .oge (s (ix1 r)) (Ideal.ofBits .f32 0x00000000#32)).setWidth 32 + 1#32 = _
  rw [h, Ideal.ofBits_zero_f32, BitVec.ofNat_add, BitVec.ofNat_add, Nat.mul_comm, BitVec.ofNat_mul]
  refine congrArg₂ _ (congrArg₂ _ rfl (BitVec.eq_of_toNat_eq ?_)) rfl
  unfold turn
  rw [BitVec.toNat_setWidth, BitVec.toNat_ofNat]

include ha hV in
/-- The node each row goes to next. -/
theorem next_apply (r : Fin 8192) : (step_main_v5_2 V : IVec S8192 32) (ix1 r)
    = BitVec.ofNat 32 (2 * a r + turn ((V main_v5_0 : FVec Ideal S8192x4095 .f32) (ix2 r ⟨a r, ha r⟩)) + 1) := by
  rw [← score_apply V a ha hV r]
  exact next_word _ _ r (hV r)

/-- A row written into a table of twelve rows: that row is the new one, every other stays. -/
theorem write_row {α : Type} (x : S12x8192.Idx → α) (u : S8192.Idx → α) (d : ℕ) (hd : d < 12) (e : Fin 12) (r : Fin 8192) (k : IVec S_ 32)
    (hk : k (Shape.Idx.first h_S_) = BitVec.ofNat 32 d) :
    Host.dynamicUpdateSlice x (broadcastInDim S1x8192 ![1] bcast_S8192_S1x8192_1 u)
      (fun i => ((![k, constantI S_ 32 0#32] : Fin 2 → IVec S_ 32) i (Shape.Idx.first h_S_)).toInt) updateFits_S12x8192_S1x8192 (ix2 e r)
      = if (e : ℕ) = d then u (ix1 r) else x (ix2 e r) := by
  pointwise
  have h0 (hr) : Host.clampedStart S12x8192 S1x8192 hr
      (fun i => ((![k, constantI S_ 32 0#32] : Fin 2 → IVec S_ 32) i (Shape.Idx.first h_S_)).toInt) (0 : Fin 2) = d := by
    show (min (max (k (Shape.Idx.first h_S_)).toInt 0) ((12 - 1 : ℕ) : ℤ)).toNat = d
    rw [hk, WordCmp.toInt_ofNat_of_lt (by omega)]
    omega
  have h1 (hr) : Host.clampedStart S12x8192 S1x8192 hr
      (fun i => ((![k, constantI S_ 32 0#32] : Fin 2 → IVec S_ 32) i (Shape.Idx.first h_S_)).toInt) (1 : Fin 2) = 0 := by
    show (min (max (0#32).toInt 0) ((8192 - 8192 : ℕ) : ℤ)).toNat = 0
    rfl
  by_cases hed : (e : ℕ) = d
  · rw [dif_pos, if_pos hed, ix1_same]
    · refine congrArg u (congrArg ix1 (Fin.ext ?_))
      show (r : ℕ) - _ = r
      rw [h1, Nat.sub_zero]
    · rw [h0, h1]
      exact ⟨⟨hed.ge, by rw [← hed]; exact Nat.lt_succ_self _⟩, Nat.zero_le _⟩
  · rw [dif_neg, if_neg hed]
    rw [h0, h1]
    rintro ⟨⟨p, q⟩, -⟩
    exact hed (le_antisymm (Nat.lt_succ_iff.mp q) p)

end Cert.Proof.RefStep

end
-- ==== Proof.RefLoop.lean ====
/- The reference's loop after any number of steps: where every row stands, and the nodes and values it has noted. -/
module

public import proofs.«01_k».proof.Proof.RefStep
public import Idealize.ShloMosaic.Lib.StableHlo.RunRead

@[expose] public section

noncomputable section

namespace Cert.Proof.RefLoop

open Idealize.ShloMosaic hiding ix1 ix2 ix3 eq_ix1 eq_ix2 eq_ix3
open Idealize.ShloMosaic.TcCoe Idealize.SL.Sem Idealize.ShloMosaic.ValueIdx
open Idealize.ShloMosaic.StableHlo (entryContents)
open Cert.ReferenceIdeal Cert.ReferenceIdeal.Gen Cert.ReferenceIdeal.Value
open Cert.Proof.Index Cert.Proof.Tree Cert.Proof.Result Cert.Proof.RefStep

variable (m : (ℓ : Loc nD τ sig) → Buf (Elt Ideal) ℓ) (c : Dev nD)

/-- The rows, as launched. -/
abbrev refX : FVec Ideal SX .f32 := m (c.tc.loc main_arg0)
/-- The input weights, as launched. -/
abbrev refIn : FVec Ideal SIn .f32 := m (c.tc.loc main_arg1)
/-- The output weights, as launched. -/
abbrev refOut : FVec Ideal SOut .f32 := m (c.tc.loc main_arg2)

/-- Every array after `j` steps of the loop. -/
abbrev stepped (j : ℕ) : Valuation τ sig (Elt Ideal) := STEP^[j] (entryContents preI m c)

/-- The product of the rows with all nodes' input weights, entry by entry. -/
theorem product_apply (x : FVec Ideal S8192x2048 .f32) (w : FVec Ideal S4095x2048 .f32) (r : Fin 8192) (n : Fin 4095) :
    Host.dotGeneral dot_S8192x2048_S2048x4095_S8192x4095_1_0_0_1_n_n none x
      (transpose S2048x4095 [1, 0] w transposes_S4095x2048_S2048x4095_1_0 : FVec Ideal S2048x4095 .f32) (ix2 r n)
      = ∑ k : Fin 2048, x (ix2 r k) * w (ix2 n k) := by
  pointwise
  simp only [ix2_same]

/-- The loop is entered with that product. -/
theorem entry_product : (entryContents preI m c main_v5_0 : FVec Ideal S8192x4095 .f32)
    = Host.dotGeneral dot_S8192x2048_S2048x4095_S8192x4095_1_0_0_1_n_n none (refX m c : FVec Ideal S8192x2048 .f32)
      (transpose S2048x4095 [1, 0] (refIn m c : FVec Ideal S4095x2048 .f32) transposes_S4095x2048_S2048x4095_1_0 : FVec Ideal S2048x4095 .f32) := by
  simp only [entryContents, StableHlo.afterL_cons, StableHlo.afterL_nil]
  after_reads_simp
  rfl

/-- The loop is entered with every row at the root. -/
theorem entry_node : (entryContents preI m c main_v5_2 : IVec S8192 32) = broadcastInDim S8192 ![] bcast_S_S8192 (constantI S_ 32 0#32) := by
  simp only [entryContents, StableHlo.afterL_cons, StableHlo.afterL_nil]
  after_reads_simp
  rfl

/-- Where every row stands after `j` steps, what it has noted, and that the values have not changed. -/
structure Stands (V : Valuation τ sig (Elt Ideal)) (x : FVec Ideal SX .f32) (w : FVec Ideal SIn .f32) (j : ℕ) : Prop where
  count : (V main_v5_1 : IVec S_ 32) = fun _ => BitVec.ofNat 32 j
  here : ∀ r : Fin 8192, (V main_v5_2 : IVec S8192 32) (ix1 r) = BitVec.ofNat 32 (node (value x w r) j)
  values : ∀ (r : Fin 8192) (n : ℕ) (h : n < 4095), (V main_v5_0 : FVec Ideal S8192x4095 .f32) (ix2 r ⟨n, h⟩) = value x w r n
  nodes : ∀ (e : Fin 12) (r : Fin 8192), (e : ℕ) < j → (V main_v5_3 : IVec S12x8192 32) (ix2 e r) = BitVec.ofNat 32 (node (value x w r) e)
  scores : ∀ (e : Fin 12) (r : Fin 8192), (e : ℕ) < j → (V main_v5_4 : FVec Ideal S12x8192 .f32) (ix2 e r) = value x w r (node (value x w r) e)

/-- At entry every row is at the root and has noted nothing. -/
theorem stands_entry : Stands (entryContents preI m c) (refX m c) (refIn m c) 0 where
  count := ctr_entry m c
  here r := by
    refine (congrFun (entry_node m c) (ix1 r)).trans ?_
    rfl
  values r n h := by
    refine (congrFun (entry_product m c) _).trans ((product_apply _ _ r ⟨n, h⟩).trans ?_)
    rw [value, dif_pos h]
  nodes _ _ h := absurd h (Nat.not_lt_zero _)
  scores _ _ h := absurd h (Nat.not_lt_zero _)

/-- One step takes every row one node down and notes its node and value. -/
theorem stands_step (V : Valuation τ sig (Elt Ideal)) (x : FVec Ideal SX .f32) (w : FVec Ideal SIn .f32) (j : ℕ) (hj : j < 12)
    (h : Stands V x w j) : Stands (STEP V) x w (j + 1) where
  count := by
    refine (STEP_main_v5_1 V).trans ?_
    refine (congrArg (fun k : IVec S_ 32 => addi k (constantI S_ 32 1#32)) h.count).trans ?_
    funext i
    exact (BitVec.ofNat_add j 1).symm
  here r := by
    refine (congrFun (STEP_main_v5_2 V) (ix1 r)).trans ?_
    refine (next_apply V (fun r => node (value x w r) j) (fun r => node_lt _ hj) h.here r).trans ?_
    rw [h.values]
    rfl
  values r n hn := (congrFun (STEP_main_v5_0 V) _).trans (h.values r n hn)
  nodes e r he := by
    refine (congrFun (STEP_main_v5_3 V) (ix2 e r)).trans ?_
    refine (write_row (V main_v5_3 : IVec S12x8192 32) (V main_v5_2 : IVec S8192 32) j hj e r (V main_v5_1 : IVec S_ 32) (congrFun h.count _)).trans ?_
    split
    · next hed => rw [hed]; exact h.here r
    · next hed => exact h.nodes e r (by omega)
  scores e r he := by
    refine (congrFun (STEP_main_v5_4 V) (ix2 e r)).trans ?_
    refine (write_row (V main_v5_4 : FVec Ideal S12x8192 .f32) (res_main_while0b_v26 V : FVec Ideal S8192 .f32) j hj e r (V main_v5_1 : IVec S_ 32)
      (congrFun h.count _)).trans ?_
    split
    · next hed =>
      rw [hed]
      exact (score_apply V (fun r => node (value x w r) j) (fun r => node_lt _ hj) h.here r).trans (h.values r _ _)
    · next hed => exact h.scores e r (by omega)

/-- After `j` of the twelve steps every row stands where the tree takes it. -/
theorem stands_after (j : ℕ) (hj : j ≤ 12) : Stands (stepped m c j) (refX m c) (refIn m c) j := by
  induction j with
  | zero => exact stands_entry m c
  | succ j ih =>
    rw [stepped, Function.iterate_succ_apply']
    exact stands_step _ _ _ j (by omega) (ih (by omega))

end Cert.Proof.RefLoop

end
-- ==== Proof.RefValue.lean ====
/- The reference's result: over the twelve nodes a row visits, the activation of its value times the output weight. -/
module

public import proofs.«01_k».proof.Proof.RefLoop
public import Idealize.ShloMosaic.PureOps.Ideal.Laws

@[expose] public section

noncomputable section

namespace Cert.Proof.RefValue

open Idealize.ShloMosaic hiding ix1 ix2 ix3 eq_ix1 eq_ix2 eq_ix3
open Idealize.ShloMosaic.TcCoe Idealize.SL.Sem Idealize.ShloMosaic.ValueIdx
open Idealize.ShloMosaic.StableHlo (entryContents)
open Cert.ReferenceIdeal Cert.ReferenceIdeal.Gen Cert.ReferenceIdeal.Value
open Cert.Proof.Index Cert.Proof.Tree Cert.Proof.Result Cert.Proof.Reads Cert.Proof.RefStep Cert.Proof.RefLoop

/-- The exact GELU spelled with the complement of the error function. -/
theorem gelu_complement (x : EReal) :
    Ideal.ofBits .f32 0x3F000000#32 * x * Ideal.erfc (-x * Ideal.ofBits .f32 0x3F3504F3#32) = gelu x := by
  rw [gelu, EReal.neg_mul, Ideal.erfc_neg, Ideal.ofBits_one_f32, mul_comm x (Ideal.ofBits .f32 0x3F000000#32)]

/-- The last product, entry by entry: one sum over the twelve depths. -/
theorem combine_apply (g : FVec Ideal S8192x12 .f32) (u : FVec Ideal S8192x12x2048 .f32) (r : Fin 8192) (j : Fin 2048) :
    Host.dotGeneral dot_S8192x12_S8192x12x2048_S8192x2048_1_1_n_2_0_0 none g u (ix2 r j) = ∑ d : Fin 12, g (ix2 r d) * u (ix3 r d j) := by
  pointwise
  simp only [ix2_same, ix3_same]

/-- The activation of the noted values. -/
theorem active_apply (s : FVec Ideal S12x8192 .f32) (r : Fin 8192) (d : Fin 12) :
    (mulf (mulf (broadcastInDim S8192x12 ![] bcast_S_S8192x12 (constant S_ .f32 0x3F000000#32))
        (transpose S8192x12 [1, 0] s transposes_S12x8192_S8192x12_1_0))
      (Host.erfc (mulf (Host.negf (transpose S8192x12 [1, 0] s transposes_S12x8192_S8192x12_1_0))
        (broadcastInDim S8192x12 ![] bcast_S_S8192x12 (constant S_ .f32 0x3F3504F3#32)))) : FVec Ideal S8192x12 .f32) (ix2 r d)
      = gelu (s (ix2 d r)) := by
  rw [← gelu_complement]
  pointwise
  rw [ix2_same]

/-- The index the output weights are taken at is the noted node. -/
theorem noted_apply (t : IVec S12x8192 32) (r : Fin 8192) (d : Fin 12) (n : ℕ) (hn : n < 4095) (ht : t (ix2 d r) = BitVec.ofNat 32 n) :
    broadcastInDim S8192x12x1 ![0, 1] bcast_S8192x12_S8192x12x1_0_1
      (select (cmpi .slt (transpose S8192x12 [1, 0] t transposes_S12x8192_S8192x12_1_0) (broadcastInDim S8192x12 ![] bcast_S_S8192x12 (constantI S_ 32 0#32)))
        (addi (transpose S8192x12 [1, 0] t transposes_S12x8192_S8192x12_1_0) (broadcastInDim S8192x12 ![] bcast_S_S8192x12 (constantI S_ 32 4095#32)))
        (transpose S8192x12 [1, 0] t transposes_S12x8192_S8192x12_1_0)) (ix3 r d 0) = BitVec.ofNat 32 n := by
  pointwise
  simp only [ix2_same]
  refine Eq.trans ?_ (wrap_node hn)
  rw [← ht]

/-- The output weights turned round. -/
theorem turned_apply (w : FVec Ideal S2048x4095 .f32) (n : Fin 4095) (j : Fin 2048) :
    (transpose S4095x2048 [1, 0] w transposes_S2048x4095_S4095x2048_1_0 : FVec Ideal S4095x2048 .f32) (ix2 n j) = w (ix2 j n) := by
  pointwise
  rw [ix2_same]

variable (m : (ℓ : Loc nD τ sig) → Buf (Elt Ideal) ℓ) (c : Dev nD)

/-- The loop leaves the output weights as launched. -/
theorem after_out (j : ℕ) : (stepped m c j main_arg2 : FVec Ideal S2048x4095 .f32) = refOut m c := iter_main_arg2 m c j

/-- What the reference computes from what its loop leaves. -/
theorem out_apply (V : Valuation τ sig (Elt Ideal)) (x : FVec Ideal SX .f32) (w : FVec Ideal SIn .f32) (wo : FVec Ideal SOut .f32)
    (h : Stands V x w 12) (ho : (V main_arg2 : FVec Ideal S2048x4095 .f32) = wo) (r : Fin 8192) (j : Fin 2048) :
    (out_main_v23 V : FVec Ideal S8192x2048 .f32) (ix2 r j) = result x w wo r j := by
  unfold out_main_v23
  refine (combine_apply _ _ r j).trans ?_
  rw [result, Finset.sum_range]
  refine Finset.sum_congr rfl fun d _ => ?_
  have hn : node (value x w r) d < 4095 := node_lt _ d.isLt
  refine congrArg₂ _ ?_ ?_
  · refine (active_apply (V main_v5_4 : FVec Ideal S12x8192 .f32) r d).trans ?_
    rw [h.scores d r d.isLt]
  · refine (takeWeights_apply _ _ r d j _ hn (noted_apply (V main_v5_3 : IVec S12x8192 32) r d _ hn (h.nodes d r d.isLt))).trans ?_
    refine (turned_apply _ _ _).trans ((congrFun ho _).trans ?_)
    rw [weight, dif_pos hn]

/-- The reference's result is the plain one. -/
theorem reference_result : (out_main_v23 (STEP^[12] (entryContents preI m c)) : FVec Ideal S8192x2048 .f32)
    = fun i => result (refX m c) (refIn m c) (refOut m c) (i 0) (i 1) := by
  funext i
  obtain ⟨r, j, rfl⟩ : ∃ (r : Fin 8192) (j : Fin 2048), i = ix2 r j := ⟨i 0, i 1, eq_ix2 i⟩
  exact out_apply _ _ _ _ (stands_after m c 12 le_rfl) (after_out m c 12) r j

end Cert.Proof.RefValue

end
-- ==== Proof.lean ====
/- The certificate: the three frames, that nothing was rewritten, and that the kernel and the reference compute one
   result. Both runs end at the same plain function of the arguments: the kernel's is
   `Cert.Proof.KernelRun.run_result`, the reference's the generated run with `Cert.Proof.RefValue.reference_result`. -/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.ReferenceIdeal.Run
public import proofs.«01_k».proof.Proof.KernelRun
public import proofs.«01_k».proof.Proof.RefValue
public import Idealize.ShloMosaic.Lib.Quiescent

@[expose] public section

noncomputable section

namespace Cert.Proof

open Idealize.ShloMosaic Idealize.ShloMosaic.TcCoe Idealize.SL.Sem

/-- The reference runs, leaves its arguments as launched, and has no counter to leave above zero. -/
theorem reference_frame : Cert.quiescent_ReferenceIdeal (hReferenceIdeal := Cert.ReferenceIdeal.Gen.facts) := fun m g _ =>
  (θ_run Cert.ReferenceIdeal.defs _ _).mono (fun _ h => ⟨fun c => (h c).2, sem_eq_zero_of_no_sems (by decide) _⟩)
    (Cert.ReferenceIdeal.Value.run (F := Ideal) m g)

/-- From equal arguments the kernel and the reference end with equal results, and leave their arguments as launched. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Arrays.resultG m c, KernelRun.run_result m g, ?_⟩
  refine (θ_run Cert.ReferenceIdeal.defs _ _).mono (fun _ h c => ⟨(h c).1.trans ?_, (h c).2⟩) (Cert.ReferenceIdeal.Value.run (F := Ideal) m' g')
  obtain ⟨h0, h1, h2⟩ := hagree c
  refine (RefValue.reference_result m' c).trans (funext fun i => ?_)
  have e0 : RefLoop.refX m' c = Entry.argX m c := h0
  have e1 : RefLoop.refIn m' c = Entry.argIn m c := h1
  have e2 : RefLoop.refOut m' c = Entry.argOut m c := h2
  rw [e0, e1, e2]
  rfl

/-- Everything stated in Defs.lean: the three frames, the idealization and the equal results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
